-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))).1 = (fun _ => 1#1)
    ∧ (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))).1 = (fun _ => 1#1)
    ∧ (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))).2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Gqa_GqaIdeal : Prop :=
  True

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v23) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v35)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v35) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v143) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v64) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hGqa : Cert.Gqa.Facts) (hGqaIdeal : Cert.GqaIdeal.Facts) (hGqaRefIdeal : Cert.GqaRefIdeal.Facts) (hInproj : Cert.Inproj.Facts) (hInprojIdeal : Cert.InprojIdeal.Facts) (hInprojRefIdeal : Cert.InprojRefIdeal.Facts) (hMemAttn : Cert.MemAttn.Facts) (hMemAttnIdeal : Cert.MemAttnIdeal.Facts) (hMemAttnRefIdeal : Cert.MemAttnRefIdeal.Facts) (hMemKv : Cert.MemKv.Facts) (hMemKvIdeal : Cert.MemKvIdeal.Facts) (hMemKvRefIdeal : Cert.MemKvRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPre_finite_gqa : Cert.Pre_finite_gqa.Facts) (hPre_finite_mem : Cert.Pre_finite_mem.Facts),
    quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ quiescent_Inproj (hInproj := hInproj)
    ∧ quiescent_InprojIdeal (hInprojIdeal := hInprojIdeal)
    ∧ quiescent_InprojRefIdeal (hInprojRefIdeal := hInprojRefIdeal)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
    ∧ preserves_Inproj_InprojIdeal
    ∧ algebraic_InprojIdeal_InprojRefIdeal (hInprojIdeal := hInprojIdeal) (hInprojRefIdeal := hInprojRefIdeal)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_MemKv_MemKvIdeal
    ∧ algebraic_MemKvIdeal_MemKvRefIdeal (hMemKvIdeal := hMemKvIdeal) (hMemKvRefIdeal := hMemKvRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
-- ==== Pre_finite_gqa.lean ====
abbrev S16384x3584 : Shape := ⟨2, ![16384, 3584]⟩
abbrev S16384x1280 : Shape := ⟨2, ![16384, 1280]⟩
abbrev S_ : Shape := ⟨0, ![]⟩

class Facts : Prop where
  slices_S16384x3584_S16384x1280_0_0 : S16384x3584.Slices ![0, 0] S16384x1280
  bitsLt_bf16_f32 : FTy.bits .bf16 < FTy.bits .f32
  bcast_S_S16384x1280 : S_.BroadcastsInDim S16384x1280 (![] : Fin 0 → Fin S16384x1280.rank)

variable [Facts]

def fn {F : FTy → Type} [FloatOps F] (main_arg0 : FVec F S16384x3584 .bf16) : IVec S16384x1280 1 :=
  let main_v0 : FVec F S16384x1280 .bf16 := (extractStridedSlice S16384x1280 ![0, 0] · slices_S16384x3584_S16384x1280_0_0) main_arg0
  let main_v1 : FVec F S16384x1280 .f32 := (extf .f32 · bitsLt_bf16_f32) main_v0
  let main_v2 : FVec F S16384x1280 .f32 := Host.absf main_v1
  let main_cst : FVec F S_ .f32 := constant S_ .f32 0x7F800000#32
  let main_v3 : FVec F S16384x1280 .f32 := broadcastInDim S16384x1280 ![] bcast_S_S16384x1280 main_cst
  let main_v4 : IVec S16384x1280 1 := cmpf .olt main_v2 main_v3
  main_v4
-- ==== Pre_finite_mem.lean ====
abbrev S16384x3584 : Shape := ⟨2, ![16384, 3584]⟩
abbrev S2048x1024 : Shape := ⟨2, ![2048, 1024]⟩
abbrev S16384x512 : Shape := ⟨2, ![16384, 512]⟩
abbrev S_ : Shape := ⟨0, ![]⟩
abbrev S2048x512 : Shape := ⟨2, ![2048, 512]⟩

class Facts : Prop where
  slices_S16384x3584_S16384x512_0_3072 : S16384x3584.Slices ![0, 3072] S16384x512
  bitsLt_bf16_f32 : FTy.bits .bf16 < FTy.bits .f32
  bcast_S_S16384x512 : S_.BroadcastsInDim S16384x512 (![] : Fin 0 → Fin S16384x512.rank)
  slices_S2048x1024_S2048x512_0_0 : S2048x1024.Slices ![0, 0] S2048x512
  bcast_S_S2048x512 : S_.BroadcastsInDim S2048x512 (![] : Fin 0 → Fin S2048x512.rank)

variable [Facts]

def fn {F : FTy → Type} [FloatOps F] (main_arg0 : FVec F S16384x3584 .bf16) (main_arg1 : FVec F S2048x1024 .bf16) : IVec S16384x512 1 × IVec S2048x512 1 :=
  let main_v0 : FVec F S16384x512 .bf16 := (extractStridedSlice S16384x512 ![0, 3072] · slices_S16384x3584_S16384x512_0_3072) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S2048x512 .bf16 := (extractStridedSlice S2048x512 ![0, 0] · slices_S2048x1024_S2048x512_0_0) main_arg1
  let main_v6 : FVec F S2048x512 .f32 := (extf .f32 · bitsLt_bf16_f32) main_v5
  let main_v7 : FVec F S2048x512 .f32 := Host.absf main_v6
  let main_cst_0 : FVec F S_ .f32 := constant S_ .f32 0x7F800000#32
  let main_v8 : FVec F S2048x512 .f32 := broadcastInDim S2048x512 ![] bcast_S_S2048x512 main_cst_0
  let main_v9 : IVec S2048x512 1 := cmpf .olt main_v7 main_v8
  (main_v4, main_v9)
-- ==== Gqa.lean ====
abbrev S16384x3584 : Shape := ⟨2, ![16384, 3584]⟩
abbrev S16384x1024 : Shape := ⟨2, ![16384, 1024]⟩
abbrev S256x512 : Shape := ⟨2, ![256, 512]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x3584, .bf16⟩
  | .hbm, ⟨1, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S16384x3584 : Shape := ⟨2, ![16384, 3584]⟩
abbrev S16384x1024 : Shape := ⟨2, ![16384, 1024]⟩
abbrev S8x2048x2x4x128 : Shape := ⟨5, ![8, 2048, 2, 4, 128]⟩
abbrev S16384x256 : Shape := ⟨2, ![16384, 256]⟩
abbrev S8x2048x2x128 : Shape := ⟨4, ![8, 2048, 2, 128]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S16384x3584, .f32⟩
  | .hbm, ⟨2, _⟩ => ⟨S16384x1024, .f32⟩
  | .hbm, ⟨3, _⟩ => ⟨S8x2048x2x4x128, .f32⟩
  | .hbm, ⟨4, _⟩ => ⟨S16384x256, .f32⟩
  | .hbm, ⟨5, _⟩ => ⟨S8x2048x2x128, .f32⟩
  | .hbm, ⟨6, _⟩ => ⟨S16384x256, .f32⟩
  | .hbm, ⟨7, _⟩ => ⟨S8x2048x2x128, .f32⟩
  | .hbm, ⟨8, _⟩ => ⟨S8x2x2048x2048x4, .f32⟩
  | .hbm, ⟨9, _⟩ => ⟨S8x2x4x2048x2048, .f32⟩
  | .hbm, ⟨10, _⟩ => ⟨S_, .f32⟩
  | .hbm, ⟨11, _⟩ => ⟨S8x2x4x2048, .f32⟩
  | .hbm, ⟨12, _⟩ => ⟨S_, .f32⟩
  | .hbm, ⟨13, _⟩ => ⟨S8x2x4x2048, .f32⟩
  | .hbm, ⟨14, _⟩ => ⟨S8x2x4x2048, .f32⟩
  | .hbm, ⟨15, _⟩ => ⟨S8x2x4x2048x1, .f32⟩
  | .hbm, ⟨16, _⟩ => ⟨S8x2x4x2048x2048, .f32⟩
  | .hbm, ⟨17, _⟩ => ⟨S8x2x4x2048x2048, .f32⟩
  | .hbm, ⟨18, _⟩ => ⟨S8x2x4x2048x2048, .f32⟩
  | .hbm, ⟨19, _⟩ => ⟨S_, .f32⟩
  | .hbm, ⟨20, _⟩ => ⟨S8x2x4x2048, .f32⟩
  | .hbm, ⟨21, _⟩ => ⟨S8x2x4x2048x1, .f32⟩
  | .hbm, ⟨22, _⟩ => ⟨S8x2x4x2048x2048, .f32⟩
  | .hbm, ⟨23, _⟩ => ⟨S8x2x4x2048x2048, .f32⟩
  | .hbm, ⟨24, _⟩ => ⟨S8x2x128x4x2048, .f32⟩
  | .hbm, ⟨25, _⟩ => ⟨S8x2048x2x4x128, .f32⟩
  | .hbm, ⟨26, _⟩ => ⟨S16384x1024, .f32⟩
  | .hbm, ⟨27, _⟩ => ⟨S16384x1024, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Inproj.lean ====
abbrev S16384x2048 : Shape := ⟨2, ![16384, 2048]⟩
abbrev S1x2048x9728 : Shape := ⟨3, ![1, 2048, 9728]⟩
abbrev S1x128 : Shape := ⟨2, ![1, 128]⟩
abbrev S2048x2 : Shape := ⟨2, ![2048, 2]⟩
abbrev S128 : Shape := ⟨1, ![128]⟩
abbrev S2048x9728 : Shape := ⟨2, ![2048, 9728]⟩
abbrev S32 : Shape := ⟨1, ![32]⟩
abbrev S_ : Shape := ⟨0, ![]⟩
abbrev S128x1 : Shape := ⟨2, ![128, 1]⟩
abbrev S2048x128 : Shape := ⟨2, ![2048, 128]⟩
abbrev S16384x3584 : Shape := ⟨2, ![16384, 3584]⟩
abbrev S512x2048 : Shape := ⟨2, ![512, 2048]⟩
abbrev S2048x3584 : Shape := ⟨2, ![2048, 3584]⟩
abbrev S512x128 : Shape := ⟨2, ![512, 128]⟩
abbrev S512x3584 : Shape := ⟨2, ![512, 3584]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 60
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048x9728, .f32⟩
  | .hbm, ⟨2, _⟩ => ⟨S1x128, .f32⟩
  | .hbm, ⟨3, _⟩ => ⟨S1x128, .f32⟩
  | .hbm, ⟨4, _⟩ => ⟨S2048x2, .f32⟩
  | .hbm, ⟨5, _⟩ => ⟨S128, .i32⟩
  | .hbm, ⟨6, _⟩ => ⟨S128, .i1⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S2048x9728, .f32⟩
  | .hbm, ⟨11, _⟩ => ⟨S2048x9728, .bf16⟩
  | .hbm, ⟨12, _⟩ => ⟨S128, .f32⟩
  | .hbm, ⟨13, _⟩ => ⟨S128, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S2048x128, .f32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S128, .f32⟩
  | .hbm, ⟨40, _⟩ => ⟨S1x128, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S1x128, .i1⟩
  | .hbm, ⟨46, _⟩ => ⟨S2048x128, .f32⟩
  | .hbm, ⟨47, _⟩ => ⟨S_, .f32⟩
  | .hbm, ⟨48, _⟩ => ⟨S_, .f32⟩
  | .hbm, ⟨49, _⟩ => ⟨S2048x128, .i1⟩
  | .hbm, ⟨50, _⟩ => ⟨S2048x128, .f32⟩
  | .hbm, ⟨51, _⟩ => ⟨S2048x128, .f32⟩
  | .hbm, ⟨52, _⟩ => ⟨S_, .f32⟩
  | .hbm, ⟨53, _⟩ => ⟨S_, .f32⟩
  | .hbm, ⟨54, _⟩ => ⟨S2048x128, .i1⟩
  | .hbm, ⟨55, _⟩ => ⟨S2048x128, .f32⟩
  | .hbm, ⟨56, _⟩ => ⟨S2048x128, .f32⟩
  | .hbm, ⟨57, _⟩ => ⟨S1x128, .f32⟩
  | .hbm, ⟨58, _⟩ => ⟨S1x128, .f32⟩
  | .hbm, ⟨59, _⟩ => ⟨S16384x3584, .bf16⟩
  | .local _ .vmem, ⟨0, _⟩ => ⟨S512x2048, .f32⟩
  | .local _ .vmem, ⟨1, _⟩ => ⟨S512x2048, .f32⟩
  | .local _ .vmem, ⟨2, _⟩ => ⟨S2048x3584, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x3584, .bf16⟩
  | .local _ .vmem, ⟨12, _⟩ => ⟨S512x3584, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev main_cst_7 : Ref sig .tc := ⟨.hbm, 25, rfl⟩
abbrev main_v12 : Ref sig .tc := ⟨.hbm, 26, rfl⟩
abbrev main_v13 : Ref sig .tc := ⟨.hbm, 27, rfl⟩
abbrev main_c_8 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_9 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v31 : Ref sig .tc := ⟨.hbm, 51, rfl⟩
abbrev main_cst_11 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S16384x2048 : Shape := ⟨2, ![16384, 2048]⟩
abbrev S1x2048x9728 : Shape := ⟨3, ![1, 2048, 9728]⟩
abbrev S1x128 : Shape := ⟨2, ![1, 128]⟩
abbrev S2048x9728 : Shape := ⟨2, ![2048, 9728]⟩
abbrev S2048x3584 : Shape := ⟨2, ![2048, 3584]⟩
abbrev S16384x3584 : Shape := ⟨2, ![16384, 3584]⟩
abbrev S16384x1024 : Shape := ⟨2, ![16384, 1024]⟩
abbrev S16384x256 : Shape := ⟨2, ![16384, 256]⟩
abbrev S16384x512 : Shape := ⟨2, ![16384, 512]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S8x2048x2x64 : Shape := ⟨4, ![8, 2048, 2, 64]⟩
abbrev S8x2048x2x32 : Shape := ⟨4, ![8, 2048, 2, 32]⟩

abbrev nBuf : Space → Nat
  | .hbm => 199
  | .vmem => 0
  | .smem => 0
  | _ => 0

abbrev hbmTy0_0 (i : Nat) : BufTy := match i % 128 with
  | 0 => ⟨S16384x2048, .f32⟩
  | 1 => ⟨S1x2048x9728, .f32⟩
  | 2 => ⟨S1x128, .f32⟩
  | 3 => ⟨S1x128, .f32⟩
  | 4 => ⟨S2048x9728, .f32⟩
  | 5 => ⟨S2048x3584, .f32⟩
  | 6 => ⟨S16384x3584, .f32⟩
  | 7 => ⟨S16384x1024, .f32⟩
  | 8 => ⟨S16384x256, .f32⟩
  | 9 => ⟨S16384x256, .f32⟩
  | 10 => ⟨S16384x512, .f32⟩
  | 11 => ⟨S16384x1024, .f32⟩
  | 12 => ⟨S16384x512, .f32⟩
  | 13 => ⟨S2048, .i32⟩
  | 14 => ⟨S_, .i32⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S2048, .i32⟩
  | 23 => ⟨S2048, .i32⟩
  | 24 => ⟨S_, .i32⟩
  | 25 => ⟨S2048, .i32⟩
  | 26 => ⟨S2048, .i1⟩
  | 27 => ⟨S2048, .i1⟩
  | 28 => ⟨S_, .i32⟩
  | 29 => ⟨S2048, .i32⟩
  | 30 => ⟨S2048, .i32⟩
  | 31 => ⟨S2048, .i32⟩
  | 32 => ⟨S2048, .f32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i1⟩
  | 47 => ⟨S_, .i32⟩
  | 48 => ⟨S_, .i1⟩
  | 49 => ⟨S2048, .i1⟩
  | 50 => ⟨S2048, .i1⟩
  | 51 => ⟨S2048, .i1⟩
  | 52 => ⟨S2048, .i32⟩
  | 53 => ⟨S2048, .i32⟩
  | 54 => ⟨S2048, .i32⟩
  | 55 => ⟨S2048, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S2048x1, .f32⟩
  | 71 => ⟨S1x32, .f32⟩
  | 72 => ⟨S2048x32, .f32⟩
  | 73 => ⟨S2048x32, .f32⟩
  | 74 => ⟨S2048x32, .f32⟩
  | 75 => ⟨S2048x1, .f32⟩
  | 76 => ⟨S1x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S2048x32, .f32⟩
  | 83 => ⟨S2048x32, .f32⟩
  | 84 => ⟨S8x2048x8x128, .f32⟩
  | 85 => ⟨S128, .f32⟩
  | 86 => ⟨S8x2048x8x128, .f32⟩
  | 87 => ⟨S_, .f32⟩
  | 88 => ⟨S8x2048x8, .f32⟩
  | 89 => ⟨S8x2048x8x1, .f32⟩
  | 90 => ⟨S_, .f32⟩
  | 91 => ⟨S8x2048x8x1, .f32⟩
  | 92 => ⟨S8x2048x8x1, .f32⟩
  | 93 => ⟨S_, .f32⟩
  | 94 => ⟨S8x2048x8x1, .f32⟩
  | 95 => ⟨S8x2048x8x1, .f32⟩
  | 96 => ⟨S8x2048x8x1, .f32⟩
  | 97 => ⟨S8x2048x8x128, .f32⟩
  | 98 => ⟨S8x2048x8x128, .f32⟩
  | 99 => ⟨S1x1x1x128, .f32⟩
  | 100 => ⟨S8x2048x8x128, .f32⟩
  | 101 => ⟨S8x2048x8x128, .f32⟩
  | 102 => ⟨S8x2048x8x64, .f32⟩
  | 103 => ⟨S8x2048x8x64, .f32⟩
  | 104 => ⟨S8x2048x8x32, .f32⟩
  | 105 => ⟨S8x2048x8x32, .f32⟩
  | 106 => ⟨S1x2048x1x32, .f32⟩
  | 107 => ⟨S1x2048x1x32, .f32⟩
  | 108 => ⟨S8x2048x8x32, .f32⟩
  | 109 => ⟨S8x2048x8x32, .f32⟩
  | 110 => ⟨S8x2048x8x32, .f32⟩
  | 111 => ⟨S8x2048x8x32, .f32⟩
  | 112 => ⟨S8x2048x8x32, .f32⟩
  | 113 => ⟨S8x2048x8x32, .f32⟩
  | 114 => ⟨S8x2048x8x32, .f32⟩
  | 115 => ⟨S8x2048x8x32, .f32⟩
  | 116 => ⟨S8x2048x8x32, .f32⟩
  | 117 => ⟨S8x2048x8x32, .f32⟩
  | 118 => ⟨S8x2048x8x64, .f32⟩
  | 119 => ⟨S8x2048x8x32, .f32⟩
  | 120 => ⟨S8x2048x8x32, .f32⟩
  | 121 => ⟨S1x2048x1x32, .f32⟩
  | 122 => ⟨S1x2048x1x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S16384x2048, .f32⟩

abbrev hbmTy0_1 (i : Nat) : BufTy := match i % 128 with
  | 0 => ⟨S8x2048x8x32, .f32⟩
  | 1 => ⟨S8x2048x8x32, .f32⟩
  | 2 => ⟨S8x2048x8x32, .f32⟩
  | 3 => ⟨S8x2048x8x32, .f32⟩
  | 4 => ⟨S8x2048x8x32, .f32⟩
  | 5 => ⟨S8x2048x8x64, .f32⟩
  | 6 => ⟨S8x2048x8x128, .f32⟩
  | 7 => ⟨S_, .f32⟩
  | 8 => ⟨S8x2048x8x128, .f32⟩
  | 9 => ⟨S8x2048x8x128, .f32⟩
  | 10 => ⟨S8x2048x2x128, .f32⟩
  | 11 => ⟨S128, .f32⟩
  | 12 => ⟨S8x2048x2x128, .f32⟩
  | 13 => ⟨S_, .f32⟩
  | 14 => ⟨S8x2048x2, .f32⟩
  | 15 => ⟨S8x2048x2x1, .f32⟩
  | 16 => ⟨S_, .f32⟩
  | 17 => ⟨S8x2048x2x1, .f32⟩
  | 18 => ⟨S8x2048x2x1, .f32⟩
  | 19 => ⟨S_, .f32⟩
  | 20 => ⟨S8x2048x2x1, .f32⟩
  | 21 => ⟨S8x2048x2x1, .f32⟩
  | 22 => ⟨S8x2048x2x1, .f32⟩
  | 23 => ⟨S8x2048x2x128, .f32⟩
  | 24 => ⟨S8x2048x2x128, .f32⟩
  | 25 => ⟨S1x1x1x128, .f32⟩
  | 26 => ⟨S8x2048x2x128, .f32⟩
  | 27 => ⟨S8x2048x2x128, .f32⟩
  | 28 => ⟨S8x2048x2x64, .f32⟩
  | 29 => ⟨S8x2048x2x64, .f32⟩
  | 30 => ⟨S8x2048x2x32, .f32⟩
  | 31 => ⟨S8x2048x2x32, .f32⟩
  | 32 => ⟨S1x2048x1x32, .f32⟩
  | 33 => ⟨S1x2048x1x32, .f32⟩
  | 34 => ⟨S8x2048x2x32, .f32⟩
  | 35 => ⟨S8x2048x2x32, .f32⟩
  | 36 => ⟨S8x2048x2x32, .f32⟩
  | 37 => ⟨S8x2048x2x32, .f32⟩
  | 38 => ⟨S8x2048x2x32, .f32⟩
  | 39 => ⟨S8x2048x2x32, .f32⟩
  | 40 => ⟨S8x2048x2x32, .f32⟩
  | 41 => ⟨S8x2048x2x32, .f32⟩
  | 42 => ⟨S8x2048x2x32, .f32⟩
  | 43 => ⟨S8x2048x2x32, .f32⟩
  | 44 => ⟨S8x2048x2x64, .f32⟩
  | 45 => ⟨S8x2048x2x32, .f32⟩
  | 46 => ⟨S8x2048x2x32, .f32⟩
  | 47 => ⟨S1x2048x1x32, .f32⟩
  | 48 => ⟨S1x2048x1x32, .f32⟩
  | 49 => ⟨S8x2048x2x32, .f32⟩
  | 50 => ⟨S8x2048x2x32, .f32⟩
  | 51 => ⟨S8x2048x2x32, .f32⟩
  | 52 => ⟨S8x2048x2x32, .f32⟩
  | 53 => ⟨S8x2048x2x32, .f32⟩
  | 54 => ⟨S8x2048x2x32, .f32⟩
  | 55 => ⟨S8x2048x2x32, .f32⟩
  | 56 => ⟨S8x2048x2x32, .f32⟩
  | 57 => ⟨S8x2048x2x32, .f32⟩
  | 58 => ⟨S8x2048x2x32, .f32⟩
  | 59 => ⟨S8x2048x2x64, .f32⟩
  | 60 => ⟨S8x2048x2x128, .f32⟩
  | 61 => ⟨S16384x1024, .f32⟩
  | 62 => ⟨S16384x256, .f32⟩
  | 63 => ⟨S_, .f32⟩
  | 64 => ⟨S16384x512, .f32⟩
  | 65 => ⟨S16384x512, .f32⟩
  | 66 => ⟨S_, .f32⟩
  | 67 => ⟨S16384x512, .f32⟩
  | 68 => ⟨S16384x512, .f32⟩
  | 69 => ⟨S16384x3584, .f32⟩
  | 70 => ⟨S16384x3584, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_2 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_4 : Ref sig .tc := ⟨.hbm, 87, rfl⟩
abbrev main_v41 : Ref sig .tc := ⟨.hbm, 88, rfl⟩
abbrev main_v42 : Ref sig .tc := ⟨.hbm, 89, rfl⟩
abbrev main_cst_5 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_7 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_8 : Ref sig .tc := ⟨.hbm, 141, rfl⟩
abbrev main_v91 : Ref sig .tc := ⟨.hbm, 142, rfl⟩
abbrev main_v92 : Ref sig .tc := ⟨.hbm, 143, rfl⟩
abbrev main_cst_9 : Ref sig .tc := ⟨.hbm, 144, rfl⟩
abbrev main_v93 : Ref sig .tc := ⟨.hbm, 145, rfl⟩
abbrev main_v94 : Ref sig .tc := ⟨.hbm, 146, rfl⟩
abbrev main_cst_10 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_11 : Ref sig .tc := ⟨.hbm, 191, rfl⟩
abbrev main_v138 : Ref sig .tc := ⟨.hbm, 192, rfl⟩
abbrev main_v139 : Ref sig .tc := ⟨.hbm, 193, rfl⟩
abbrev main_cst_12 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩

abbrev nD : Nat := 1
abbrev τ : Topo := Topo.v7x

variable {F : FTy → Type} [FloatOps F]
-- ==== MemAttn.lean ====
abbrev S16384x3584 : Shape := ⟨2, ![16384, 3584]⟩
abbrev S2048x1024 : Shape := ⟨2, ![2048, 1024]⟩
abbrev S16384x512 : Shape := ⟨2, ![16384, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x3584, .bf16⟩
  | .hbm, ⟨1, _⟩ => ⟨S2048x1024, .bf16⟩
  | .hbm, ⟨2, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S16384x3584 : Shape := ⟨2, ![16384, 3584]⟩
abbrev S2048x1024 : Shape := ⟨2, ![2048, 1024]⟩
abbrev S16384x512 : Shape := ⟨2, ![16384, 512]⟩
abbrev S8x2048x4x128 : Shape := ⟨4, ![8, 2048, 4, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S2048x1024, .bf16⟩
  | .hbm, ⟨2, _⟩ => ⟨S16384x512, .bf16⟩
  | .hbm, ⟨3, _⟩ => ⟨S16384x512, .f32⟩
  | .hbm, ⟨4, _⟩ => ⟨S8x2048x4x128, .f32⟩
  | .hbm, ⟨5, _⟩ => ⟨S2048x1024, .f32⟩
  | .hbm, ⟨6, _⟩ => ⟨S8x256x2x4x128, .f32⟩
  | .hbm, ⟨7, _⟩ => ⟨S8x256x1x4x128, .f32⟩
  | .hbm, ⟨8, _⟩ => ⟨S8x256x4x128, .f32⟩
  | .hbm, ⟨9, _⟩ => ⟨S8x4x2048x256, .f32⟩
  | .hbm, ⟨10, _⟩ => ⟨S_, .f32⟩
  | .hbm, ⟨11, _⟩ => ⟨S8x4x2048, .f32⟩
  | .hbm, ⟨12, _⟩ => ⟨S_, .f32⟩
  | .hbm, ⟨13, _⟩ => ⟨S8x4x2048, .f32⟩
  | .hbm, ⟨14, _⟩ => ⟨S8x4x2048, .f32⟩
  | .hbm, ⟨15, _⟩ => ⟨S8x4x2048x1, .f32⟩
  | .hbm, ⟨16, _⟩ => ⟨S8x4x2048x256, .f32⟩
  | .hbm, ⟨17, _⟩ => ⟨S8x4x2048x256, .f32⟩
  | .hbm, ⟨18, _⟩ => ⟨S8x4x2048x256, .f32⟩
  | .hbm, ⟨19, _⟩ => ⟨S_, .f32⟩
  | .hbm, ⟨20, _⟩ => ⟨S8x4x2048, .f32⟩
  | .hbm, ⟨21, _⟩ => ⟨S8x4x2048x1, .f32⟩
  | .hbm, ⟨22, _⟩ => ⟨S8x4x2048x256, .f32⟩
  | .hbm, ⟨23, _⟩ => ⟨S8x4x2048x256, .f32⟩
  | .hbm, ⟨24, _⟩ => ⟨S8x256x1x4x128, .f32⟩
  | .hbm, ⟨25, _⟩ => ⟨S8x256x4x128, .f32⟩
  | .hbm, ⟨26, _⟩ => ⟨S8x4x128x2048, .f32⟩
  | .hbm, ⟨27, _⟩ => ⟨S8x2048x4x128, .f32⟩
  | .hbm, ⟨28, _⟩ => ⟨S16384x512, .f32⟩
  | .hbm, ⟨29, _⟩ => ⟨S16384x512, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== MemKv.lean ====
abbrev S8x256x2048 : Shape := ⟨3, ![8, 256, 2048]⟩
abbrev S1x2048x1024 : Shape := ⟨3, ![1, 2048, 1024]⟩
abbrev S2048x2048 : Shape := ⟨2, ![2048, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x256x2048, .f32⟩
  | .hbm, ⟨1, _⟩ => ⟨S1x2048x1024, .f32⟩
  | .hbm, ⟨2, _⟩ => ⟨S2048x2048, .f32⟩
  | .hbm, ⟨3, _⟩ => ⟨S2048x1024, .f32⟩
  | .hbm, ⟨4, _⟩ => ⟨S2048x1024, .bf16⟩
  | .hbm, ⟨5, _⟩ => ⟨S2048x1024, .bf16⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S8x256x2048 : Shape := ⟨3, ![8, 256, 2048]⟩
abbrev S1x2048x1024 : Shape := ⟨3, ![1, 2048, 1024]⟩
abbrev S2048x1024 : Shape := ⟨2, ![2048, 1024]⟩
abbrev S8x256x1024 : Shape := ⟨3, ![8, 256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048x1024, .f32⟩
  | .hbm, ⟨2, _⟩ => ⟨S2048x1024, .f32⟩
  | .hbm, ⟨3, _⟩ => ⟨S8x256x1024, .f32⟩
  | .hbm, ⟨4, _⟩ => ⟨S2048x1024, .f32⟩
  | .hbm, ⟨5, _⟩ => ⟨S2048x1024, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ffn.lean ====
abbrev S16384x2048 : Shape := ⟨2, ![16384, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S1024x512 : Shape := ⟨2, ![1024, 512]⟩
abbrev S128 : Shape := ⟨1, ![128]⟩
abbrev S128x1 : Shape := ⟨2, ![128, 1]⟩

abbrev nBuf : Space → Nat
  | .hbm => 14
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S1024x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v26 : BitVec 32 := Scalar.addi c0_i32_16 c8_i32
  let c1_i32 : BitVec 32 := 1#32
  ⟨c0_i32_16, v26, c1_i32⟩
def k0_mult1 (k0_t1 : Fin k0_t1_loop.trips) : BitVec 32 :=
  let c0_i32_16 : BitVec 32 := 0#32
  let c1_i32 : BitVec 32 := 1#32
  let arg10 : BitVec 32 := Scf.iv c0_i32_16 c1_i32 k0_t1
  let c128_i32 : BitVec 32 := 128#32
  let v27 : BitVec 32 := Scalar.muli arg10 c128_i32
  v27
def k0_off1 (k0_t1 : Fin k0_t1_loop.trips) : Fin 2 → Nat :=
  let c0_i32_16 : BitVec 32 := 0#32
  let c1_i32 : BitVec 32 := 1#32
  let arg10 : BitVec 32 := Scf.iv c0_i32_16 c1_i32 k0_t1
  let c128_i32 : BitVec 32 := 128#32
  let v27 : BitVec 32 := Scalar.muli arg10 c128_i32
  let v28 : BitVec 32 := v27
  let v29 : Index := Scalar.indexCast v28
  let c0_18 : Index := 0#32
  ![v29.toNat, 0]
def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_15 : BitVec 32 := 0#32
  let v25 : BitVec 1 := Scalar.cmpi .ne v24 c0_i32_15
  v25

@[reducible] def k0_t2_loop : Scf.Loop 32 :=
  let c0_i32_20 : BitVec 32 := 0#32
  let c8_i32 : BitVec 32 := 8#32
  let v30 : BitVec 32 := Scalar.addi c0_i32_20 c8_i32
  let c1_i32 : BitVec 32 := 1#32
  ⟨c0_i32_20, v30, c1_i32⟩
def k0_mult2 (k0_t2 : Fin k0_t2_loop.trips) : BitVec 32 :=
  let c0_i32_20 : BitVec 32 := 0#32
  let c1_i32 : BitVec 32 := 1#32
  let arg10 : BitVec 32 := Scf.iv c0_i32_20 c1_i32 k0_t2
  let c128_i32 : BitVec 32 := 128#32
  let v31 : BitVec 32 := Scalar.muli arg10 c128_i32
  v31
def k0_off2 (k0_t2 : Fin k0_t2_loop.trips) : Fin 2 → Nat :=
  let c0_i32_20 : BitVec 32 := 0#32
  let c1_i32 : BitVec 32 := 1#32
  let arg10 : BitVec 32 := Scf.iv c0_i32_20 c1_i32 k0_t2
  let c128_i32 : BitVec 32 := 128#32
  let v31 : BitVec 32 := Scalar.muli arg10 c128_i32
  let v32 : BitVec 32 := v31
  let v33 : Index := Scalar.indexCast v32
  let c0_22 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S_ : Shape := ⟨0, ![]⟩
abbrev S2048x11264 : Shape := ⟨2, ![2048, 11264]⟩
abbrev S5632x2048 : Shape := ⟨2, ![5632, 2048]⟩
abbrev S16384x11264 : Shape := ⟨2, ![16384, 11264]⟩
abbrev S16384x5632 : Shape := ⟨2, ![16384, 5632]⟩
abbrev S2048 : Shape := ⟨1, ![2048]⟩
abbrev S16384 : Shape := ⟨1, ![16384]⟩
abbrev S16384x1 : Shape := ⟨2, ![16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S2048x11264, .f32⟩
  | .hbm, ⟨9, _⟩ => ⟨S5632x2048, .f32⟩
  | .hbm, ⟨10, _⟩ => ⟨S16384x11264, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S_, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x512 : Shape := ⟨2, ![16384, 512]⟩
abbrev S1x2048x9728 : Shape := ⟨3, ![1, 2048, 9728]⟩
abbrev S1x6144 : Shape := ⟨2, ![1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S2048x9728 : Shape := ⟨2, ![2048, 9728]⟩
abbrev S6144 : Shape := ⟨1, ![6144]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S3x2048 : Shape := ⟨2, ![3, 2048]⟩
abbrev S512x1024 : Shape := ⟨2, ![512, 1024]⟩
abbrev S512x512 : Shape := ⟨2, ![512, 512]⟩
abbrev S2048x256 : Shape := ⟨2, ![2048, 256]⟩
abbrev S3x256 : Shape := ⟨2, ![3, 256]⟩
abbrev S1024x256 : Shape := ⟨2, ![1024, 256]⟩
abbrev S512x256 : Shape := ⟨2, ![512, 256]⟩
abbrev S256x2048 : Shape := ⟨2, ![256, 2048]⟩
abbrev S128x2048 : Shape := ⟨2, ![128, 2048]⟩
abbrev S1x256 : Shape := ⟨2, ![1, 256]⟩
abbrev S128 : Shape := ⟨1, ![128]⟩
abbrev S128x1 : Shape := ⟨2, ![128, 1]⟩

abbrev nBuf : Space → Nat
  | .hbm => 29
  | .vmem => 29
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1x2048x9728, .f32⟩
  | .hbm, ⟨5, _⟩ => ⟨S1x6144, .f32⟩
  | .hbm, ⟨6, _⟩ => ⟨S1x1024x2048, .f32⟩
  | .hbm, ⟨7, _⟩ => ⟨S1x512x2048, .f32⟩
  | .hbm, ⟨8, _⟩ => ⟨S1x512x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S2048x9728, .f32⟩
  | .hbm, ⟨13, _⟩ => ⟨S2048x9728, .bf16⟩
  | .hbm, ⟨14, _⟩ => ⟨S6144, .f32⟩
  | .hbm, ⟨15, _⟩ => ⟨S1024x2048, .f32⟩
  | .hbm, ⟨16, _⟩ => ⟨S1024x2048, .bf16⟩
  | .hbm, ⟨17, _⟩ => ⟨S512x2048, .f32⟩
  | .hbm, ⟨18, _⟩ => ⟨S512x2048, .bf16⟩
  | .hbm, ⟨19, _⟩ => ⟨S512x2048, .f32⟩
  | .hbm, ⟨20, _⟩ => ⟨S512x2048, .bf16⟩
  | .hbm, ⟨21, _⟩ => ⟨S2048x2048, .f32⟩
  | .hbm, ⟨22, _⟩ => ⟨S2048x2048, .bf16⟩
  | .hbm, ⟨23, _⟩ => ⟨S2048, .f32⟩
  | .hbm, ⟨24, _⟩ => ⟨S2048, .f32⟩
  | .hbm, ⟨25, _⟩ => ⟨S3x2048, .f32⟩
  | .hbm, ⟨26, _⟩ => ⟨S1x2048, .f32⟩
  | .hbm, ⟨27, _⟩ => ⟨S1x2048, .f32⟩
  | .hbm, ⟨28, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1024x256, .bf16⟩
  | .local _ .vmem, ⟨17, _⟩ => ⟨S1024x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S256x2048, .bf16⟩
  | .local _ .vmem, ⟨23, _⟩ => ⟨S256x2048, .bf16⟩
  | .local _ .vmem, ⟨24, _⟩ => ⟨S1x2048, .f32⟩
  | .local _ .vmem, ⟨25, _⟩ => ⟨S1x2048, .f32⟩
  | .local _ .vmem, ⟨26, _⟩ => ⟨S512x2048, .f32⟩
  | .local _ .vmem, ⟨27, _⟩ => ⟨S512x2048, .f32⟩
  | .local _ .vmem, ⟨28, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_35 : BitVec 32 := 0#32
  let c4_i32 : BitVec 32 := 4#32
  let v55 : BitVec 32 := Scalar.addi c0_i32_35 c4_i32
  let c1_i32 : BitVec 32 := 1#32
  ⟨c0_i32_35, v55, c1_i32⟩
def k0_mult1 (k0_t1 : Fin k0_t1_loop.trips) : BitVec 32 :=
  let c0_i32_35 : BitVec 32 := 0#32
  let c1_i32 : BitVec 32 := 1#32
  let arg18 : BitVec 32 := Scf.iv c0_i32_35 c1_i32 k0_t1
  let c128_i32 : BitVec 32 := 128#32
  let v56 : BitVec 32 := Scalar.muli arg18 c128_i32
  v56
def k0_off1 (k0_t1 : Fin k0_t1_loop.trips) : Fin 2 → Nat :=
  let c0_i32_35 : BitVec 32 := 0#32
  let c1_i32 : BitVec 32 := 1#32
  let arg18 : BitVec 32 := Scf.iv c0_i32_35 c1_i32 k0_t1
  let c128_i32 : BitVec 32 := 128#32
  let v56 : BitVec 32 := Scalar.muli arg18 c128_i32
  let v57 : BitVec 32 := v56
  let v58 : Index := Scalar.indexCast v57
  let c0_37 : Index := 0#32
  ![v58.toNat, 0]
def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_34 : BitVec 32 := 0#32
  let v54 : BitVec 1 := Scalar.cmpi .ne v53 c0_i32_34
  v54

@[reducible] def k0_t2_loop : Scf.Loop 32 :=
  let c0_i32_39 : BitVec 32 := 0#32
  let c4_i32 : BitVec 32 := 4#32
  let v59 : BitVec 32 := Scalar.addi c0_i32_39 c4_i32
  let c1_i32 : BitVec 32 := 1#32
  ⟨c0_i32_39, v59, c1_i32⟩
def k0_mult2 (k0_t2 : Fin k0_t2_loop.trips) : BitVec 32 :=
  let c0_i32_39 : BitVec 32 := 0#32
  let c1_i32 : BitVec 32 := 1#32
  let arg18 : BitVec 32 := Scf.iv c0_i32_39 c1_i32 k0_t2
  let c128_i32 : BitVec 32 := 128#32
  let v60 : BitVec 32 := Scalar.muli arg18 c128_i32
  v60
def k0_off2 (k0_t2 : Fin k0_t2_loop.trips) : Fin 2 → Nat :=
  let c0_i32_39 : BitVec 32 := 0#32
  let c1_i32 : BitVec 32 := 1#32
  let arg18 : BitVec 32 := Scf.iv c0_i32_39 c1_i32 k0_t2
  let c128_i32 : BitVec 32 := 128#32
  let v60 : BitVec 32 := Scalar.muli arg18 c128_i32
  let v61 : BitVec 32 := v60
  let v62 : Index := Scalar.indexCast v61
  let c0_41 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MergeRefIdeal.lean ====
abbrev S16384x2048 : Shape := ⟨2, ![16384, 2048]⟩
abbrev S16384x1024 : Shape := ⟨2, ![16384, 1024]⟩
abbrev S16384x512 : Shape := ⟨2, ![16384, 512]⟩
abbrev S1x2048x9728 : Shape := ⟨3, ![1, 2048, 9728]⟩
abbrev S1x6144 : Shape := ⟨2, ![1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S2048x9728 : Shape := ⟨2, ![2048, 9728]⟩
abbrev S2048x6144 : Shape := ⟨2, ![2048, 6144]⟩
abbrev S16384x6144 : Shape := ⟨2, ![16384, 6144]⟩
abbrev S6144 : Shape := ⟨1, ![6144]⟩
abbrev S_ : Shape := ⟨0, ![]⟩
abbrev S16384x3x2048 : Shape := ⟨3, ![16384, 3, 2048]⟩
abbrev S16384x1x2048 : Shape := ⟨3, ![16384, 1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1x2048x9728, .f32⟩
  | .hbm, ⟨5, _⟩ => ⟨S1x6144, .f32⟩
  | .hbm, ⟨6, _⟩ => ⟨S1x1024x2048, .f32⟩
  | .hbm, ⟨7, _⟩ => ⟨S1x512x2048, .f32⟩
  | .hbm, ⟨8, _⟩ => ⟨S1x512x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S2048x9728, .f32⟩
  | .hbm, ⟨16, _⟩ => ⟨S2048x6144, .f32⟩
  | .hbm, ⟨17, _⟩ => ⟨S16384x6144, .f32⟩
  | .hbm, ⟨18, _⟩ => ⟨S6144, .f32⟩
  | .hbm, ⟨19, _⟩ => ⟨S1x6144, .f32⟩
  | .hbm, ⟨20, _⟩ => ⟨S16384x6144, .f32⟩
  | .hbm, ⟨21, _⟩ => ⟨S16384x6144, .f32⟩
  | .hbm, ⟨22, _⟩ => ⟨S16384x6144, .f32⟩
  | .hbm, ⟨23, _⟩ => ⟨S16384x6144, .f32⟩
  | .hbm, ⟨24, _⟩ => ⟨S_, .f32⟩
  | .hbm, ⟨25, _⟩ => ⟨S16384x6144, .f32⟩
  | .hbm, ⟨26, _⟩ => ⟨S16384x6144, .f32⟩
  | .hbm, ⟨27, _⟩ => ⟨S_, .f32⟩
  | .hbm, ⟨28, _⟩ => ⟨S16384x6144, .f32⟩
  | .hbm, ⟨29, _⟩ => ⟨S16384x6144, .f32⟩
  | .hbm, ⟨30, _⟩ => ⟨S16384x3x2048, .f32⟩
  | .hbm, ⟨31, _⟩ => ⟨S16384x1x2048, .f32⟩
  | .hbm, ⟨32, _⟩ => ⟨S16384x2048, .f32⟩
  | .hbm, ⟨33, _⟩ => ⟨S1024x2048, .f32⟩
  | .hbm, ⟨34, _⟩ => ⟨S16384x2048, .f32⟩
  | .hbm, ⟨35, _⟩ => ⟨S16384x2048, .f32⟩
  | .hbm, ⟨36, _⟩ => ⟨S16384x1x2048, .f32⟩
  | .hbm, ⟨37, _⟩ => ⟨S16384x2048, .f32⟩
  | .hbm, ⟨38, _⟩ => ⟨S512x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x1x2048, .f32⟩
  | .hbm, ⟨43, _⟩ => ⟨S16384x2048, .f32⟩
  | .hbm, ⟨44, _⟩ => ⟨S512x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S2048x2048, .f32⟩
  | .hbm, ⟨52, _⟩ => ⟨S16384x2048, .f32⟩
  | .hbm, ⟨53, _⟩ => ⟨S16384x2048, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x2048, .f32⟩
  | .hbm, ⟨78, _⟩ => ⟨S16384x2048, .f32⟩
  | .hbm, ⟨79, _⟩ => ⟨S1x2048, .f32⟩
  | .hbm, ⟨80, _⟩ => ⟨S16384x2048, .f32⟩
  | .hbm, ⟨81, _⟩ => ⟨S16384x2048, .f32⟩
  | .hbm, ⟨82, _⟩ => ⟨S1x2048, .f32⟩
  | .hbm, ⟨83, _⟩ => ⟨S16384x2048, .f32⟩
  | .hbm, ⟨84, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise

/-! Softmax over a row of extended reals: dividing the weighted sum by the row's total gives the sum weighted by
    the divided weights, as soon as the row's scores are real numbers. -/

@[expose] public section

noncomputable section
open Idealize.ShloMosaic

namespace Cert.Softmax

variable {n : ℕ}

/-- The 32-bit pattern of minus infinity denotes the least extended real. -/
theorem ofBits_neg_inf : Ideal.ofBits .f32 0xFF800000#32 = ⊥ := by
  simp [Ideal.ofBits, Ideal.ieee]

/-- The 32-bit pattern of plus infinity denotes the greatest extended real. -/
theorem ofBits_inf : Ideal.ofBits .f32 0x7F800000#32 = ⊤ := by
  simp [Ideal.ofBits, Ideal.ieee]

/-- The largest score of a row, from minus infinity. -/
def rowMax (s : Fin n → EReal) : EReal :=
  Finset.fold max (Ideal.ofBits .f32 0xFF800000#32) s Finset.univ

/-- The row's unnormalised weight of entry `k`. -/
def expo (s : Fin n → EReal) (k : Fin n) : EReal := Ideal.exp (s k - rowMax s)

/-- The total of a row's unnormalised weights. -/
def total (s : Fin n → EReal) : EReal := ∑ k, expo s k

/-- The softmax weight of entry `k`. -/
def weight (s : Fin n → EReal) (k : Fin n) : EReal := Ideal.div (expo s k) (total s)

/-- Starting the maximum once more from minus infinity changes nothing. -/
theorem max_rowMax (s : Fin n → EReal) : max (Ideal.ofBits .f32 0xFF800000#32) (rowMax s) = rowMax s := by
  rw [ofBits_neg_inf]; exact max_eq_right bot_le

/-- The largest of finitely many real scores, one at least, is a real number. -/
theorem rowMax_real [NeZero n] (s : Fin n → EReal) (hs : ∀ k, ∃ r : ℝ, s k = r) : ∃ M : ℝ, rowMax s = M := by
  have hbot : rowMax s ≠ ⊥ := by
    intro h
    obtain ⟨r, hr⟩ := hs 0
    have h0 : s 0 ≤ rowMax s := (Finset.le_fold_max (s := Finset.univ) (f := s) (s 0)).2 (Or.inr ⟨0, Finset.mem_univ _, le_rfl⟩)
    rw [h, hr] at h0
    exact absurd h0 (not_le.2 (EReal.bot_lt_coe r))
  have htop : rowMax s ≠ ⊤ := by
    refine ne_of_lt ((Finset.fold_max_lt (s := Finset.univ) (f := s) ⊤).2 ⟨?_, fun k _ => ?_⟩)
    · rw [ofBits_neg_inf]; exact bot_lt_top
    · obtain ⟨r, hr⟩ := hs k
      rw [hr]; exact EReal.coe_lt_top r
  exact ⟨(rowMax s).toReal, (EReal.coe_toReal htop hbot).symm⟩

/-- A nonnegative real factor moves out of a finite sum of extended reals. -/
theorem sum_mul_real {ι : Type} (A : Finset ι) (f : ι → EReal) (c : ℝ) (hc : 0 ≤ c) :
    (∑ k ∈ A, f k) * (c : EReal) = ∑ k ∈ A, f k * (c : EReal) := by
  classical
  induction A using Finset.induction_on with
  | empty => simp
  | insert a A ha ih =>
    rw [Finset.sum_insert ha, Finset.sum_insert ha, ← ih]
    exact EReal.right_distrib_of_nonneg_of_ne_top (EReal.coe_nonneg.2 hc) (EReal.coe_ne_top c) _ _

/-- A finite sum of real numbers is the same number summed among the extended reals. -/
theorem coe_sum {ι : Type} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- With real scores a row's total is a positive real number. -/
theorem total_real [NeZero n] (s : Fin n → EReal) (hs : ∀ k, ∃ r : ℝ, s k = r) : ∃ D : ℝ, 0 < D ∧ total s = D := by
  obtain ⟨M, hM⟩ := rowMax_real s hs
  choose f hf using hs
  refine ⟨∑ k, Real.exp (f k - M), Finset.sum_pos (fun k _ => Real.exp_pos _) ⟨0, Finset.mem_univ _⟩, ?_⟩
  rw [total, coe_sum]
  refine Finset.sum_congr rfl fun k _ => ?_
  rw [expo, hM, hf, ← EReal.coe_sub, Ideal.exp_coe]

/-- With real scores, dividing the weighted sum by the total is weighing by the softmax weights, whatever the
    values are. -/
theorem div_sum [NeZero n] (s : Fin n → EReal) (hs : ∀ k, ∃ r : ℝ, s k = r) (v : Fin n → EReal) :
    Ideal.div (∑ k, expo s k * v k) (total s) = ∑ k, v k * weight s k := by
  obtain ⟨D, hD, hT⟩ := total_real s hs
  rw [hT, Ideal.div_coe hD.ne', sum_mul_real _ _ _ (by positivity)]
  refine Finset.sum_congr rfl fun k _ => ?_
  rw [weight, hT, Ideal.div_coe hD.ne', mul_comm (expo s k), mul_assoc]

/-- A sum of products of real numbers is a real number. -/
theorem sum_mul_is_real {ι : Type} (A : Finset ι) (f g : ι → EReal) (hf : ∀ k, ∃ r : ℝ, f k = r) (hg : ∀ k, ∃ r : ℝ, g k = r) :
    ∃ r : ℝ, ∑ k ∈ A, f k * g k = r := by
  choose a ha using hf
  choose b hb using hg
  refine ⟨∑ k ∈ A, a k * b k, ?_⟩
  rw [coe_sum]
  exact Finset.sum_congr rfl fun k _ => by rw [ha, hb, EReal.coe_mul]

/-- An extended real whose absolute value is below plus infinity is a real number. -/
theorem real_of_abs_lt (x : EReal) (h : max x (-x) < ⊤) : ∃ r : ℝ, x = r := by
  refine ⟨x.toReal, (EReal.coe_toReal ?_ ?_).symm⟩
  · rintro rfl; simp at h
  · rintro rfl; simp at h

/-- The maximum along the last of five axes, read at an index of the other four. -/
theorem reduceMax_at {n0 n1 n2 n3 n4 : ℕ} (S : FVec Ideal ⟨5, ![n0, n1, n2, n3, n4]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce FloatOps.maximumf S (constant (F := Ideal) ⟨0, ![]⟩ .f32 0xFF800000#32) h hu (ix4 a b c d)
      = rowMax fun k => S (ix5 a b c d k) := by
  pointwise
  rfl

/-- Row maxima compared once more with minus infinity are the row maxima. -/
theorem rowMax_at {n0 n1 n2 n3 n4 : ℕ} (S : FVec Ideal ⟨5, ![n0, n1, n2, n3, n4]⟩ .f32)
    (h : (⟨5, ![n0, n1, n2, n3, n4]⟩ : Shape).ReducesTo [4] ⟨4, ![n0, n1, n2, n3]⟩) (hu : 0 < (⟨0, ![]⟩ : Shape).numel)
    (hb : (⟨0, ![]⟩ : Shape).BroadcastsInDim ⟨4, ![n0, n1, n2, n3]⟩ ![])
    (a : Fin n0) (b : Fin n1) (c : Fin n2) (d : Fin n3) :
    maximumf (broadcastInDim ⟨4, ![n0, n1, n2, n3]⟩ ![] hb (constant (F := Ideal) ⟨0, ![]⟩ .f32 0xFF800000#32))
        (Host.reduce FloatOps.maximumf S (constant (F := Ideal) ⟨0, ![]⟩ .f32 0xFF800000#32) h hu) (ix4 a b c d)
      = rowMax fun k => S (ix5 a b c d k) := by
  rw [← max_rowMax, ← reduceMax_at S h hu a b c d]
  rfl

/-- The maximum along the last of four axes, read at an index of the other three. -/
theorem reduceMax_at4 {n0 n1 n2 n3 : ℕ} (S : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf S (constant (F := Ideal) ⟨0, ![]⟩ .f32 0xFF800000#32) h hu (ix3 a b c)
      = rowMax fun k => S (ix4 a b c k) := by
  pointwise
  rfl

/-- Row maxima of four axes compared once more with minus infinity are the row maxima. -/
theorem rowMax_at4 {n0 n1 n2 n3 : ℕ} (S : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (hb : (⟨0, ![]⟩ : Shape).BroadcastsInDim ⟨3, ![n0, n1, n2]⟩ ![])
    (a : Fin n0) (b : Fin n1) (c : Fin n2) :
    maximumf (broadcastInDim ⟨3, ![n0, n1, n2]⟩ ![] hb (constant (F := Ideal) ⟨0, ![]⟩ .f32 0xFF800000#32))
        (Host.reduce FloatOps.maximumf S (constant (F := Ideal) ⟨0, ![]⟩ .f32 0xFF800000#32) h hu) (ix3 a b c)
      = rowMax fun k => S (ix4 a b c k) := by
  rw [← max_rowMax, ← reduceMax_at4 S h hu a b c]
  rfl

end Cert.Softmax
end
-- ==== Proof.GqaBlock.lean ====
module

public import proofs.«01_k».proof.Proof.Gen.GqaIdeal.Frame
public import proofs.«01_k».proof.Proof.Softmax

/-! What one grid point of the grouped-query attention kernel writes, index by index. -/

@[expose] public section

set_option maxRecDepth 16384
noncomputable section
open Idealize.ShloMosaic Idealize.ShloMosaic.TcCoe Idealize.SL.Sem

namespace Cert.GqaBlock
open Cert.GqaIdeal Cert.GqaIdeal.Gen

/-- One head's tile: the values weighed by the row's unnormalised weights, divided by their total. -/
theorem pay_at (q : Vec Ideal S256x128 .bf16) (k v : Vec Ideal S2048x128 .bf16) (r : Fin 256) (d : Fin 128) :
    k0_pay1 (F := Ideal) q k v (ix2 r d)
      = Ideal.div (∑ j, Softmax.expo (fun j => ∑ e, q (ix2 r e) * k (ix2 j e)) j * v (ix2 j d))
          (Softmax.total fun j => ∑ e, q (ix2 r e) * k (ix2 j e)) := by
  pointwise [k0_pay1]
  rfl

/-- A head's tile at an index, its operands read out of blocks: `n` is the head's place in the block. -/
theorem tile_at (q : Vec Ideal S256x512 .bf16) (k v : Vec Ideal S2048x128 .bf16) (q' : Vec Ideal S256x128 .bf16) (k' v' : Vec Ideal S2048x128 .bf16)
    (n : ℕ) (hn : n < 4) (hq : ∀ (a : Fin 256) (e : Fin 128), q' (ix2 a e) = q (ix2 a (⟨n * 128 + e, by omega⟩ : Fin 512)))
    (hk : ∀ (a : Fin 2048) (e : Fin 128), k' (ix2 a e) = k (ix2 a e)) (hv : ∀ (a : Fin 2048) (e : Fin 128), v' (ix2 a e) = v (ix2 a e))
    (x : S256x128.Idx) (r : Fin 256) (c : Fin 512) (hr : (x 0 : ℕ) = r) (hc : n * 128 + (x 1 : ℕ) = c) :
    k0_pay1 (F := Ideal) q' k' v' x
      = Ideal.div (∑ j, Softmax.expo (fun j => ∑ e : Fin 128, q (ix2 r (⟨c / 128 * 128 + e, by omega⟩ : Fin 512)) * k (ix2 j e)) j
            * v (ix2 j (⟨c % 128, by omega⟩ : Fin 128)))
          (Softmax.total fun j => ∑ e : Fin 128, q (ix2 r (⟨c / 128 * 128 + e, by omega⟩ : Fin 512)) * k (ix2 j e)) := by
  obtain ⟨a, d, rfl⟩ : ∃ (a : Fin 256) (d : Fin 128), x = ix2 a d := ⟨x 0, x 1, by funext i; match i with | ⟨0, _⟩ => rfl | ⟨1, _⟩ => rfl⟩
  have hd : d.val < 128 := d.isLt
  replace hr : a.val = r := hr
  replace hc : n * 128 + d.val = c := hc
  have hcd : c.val / 128 = n := by omega
  have hcm : c.val % 128 = d.val := by omega
  obtain rfl : a = r := Fin.ext hr
  rw [pay_at]
  simp only [hq, hk, hv, hcd, hcm]

/-- The four heads' tiles lie side by side in the block: column `c` belongs to head `c / 128`. -/
theorem out_at (q : Vec Ideal S256x512 .bf16) (k v : Vec Ideal S2048x128 .bf16) (y : S256x512.Idx) (r : Fin 256) (c : Fin 512)
    (hr : (y 0 : ℕ) = r) (hc : (y 1 : ℕ) = c) :
    out0_3 (F := Ideal) q k v y
      = Ideal.div (∑ j, Softmax.expo (fun j => ∑ e : Fin 128, q (ix2 r (⟨c / 128 * 128 + e, by omega⟩ : Fin 512)) * k (ix2 j e)) j
            * v (ix2 j (⟨c % 128, by omega⟩ : Fin 128)))
          (Softmax.total fun j => ∑ e : Fin 128, q (ix2 r (⟨c / 128 * 128 + e, by omega⟩ : Fin 512)) * k (ix2 j e)) := by
  unfold out0_3
  canon_tiles x h
  case piece0 =>
    refine tile_at q k v _ _ _ 3 (by norm_num) (fun a e => ?_) (fun a e => ?_) (fun a e => ?_) x r c (by omega) (by omega) <;> (pointwise; blk_ext)
  case piece1 =>
    refine tile_at q k v _ _ _ 2 (by norm_num) (fun a e => ?_) (fun a e => ?_) (fun a e => ?_) x r c (by omega) (by omega) <;> (pointwise; blk_ext)
  case piece2 =>
    refine tile_at q k v _ _ _ 1 (by norm_num) (fun a e => ?_) (fun a e => ?_) (fun a e => ?_) x r c (by omega) (by omega) <;> (pointwise; blk_ext)
  case piece3 =>
    refine tile_at q k v _ _ _ 0 (by norm_num) (fun a e => ?_) (fun a e => ?_) (fun a e => ?_) x r c (by omega) (by omega) <;> (pointwise; blk_ext)

end Cert.GqaBlock
end
-- ==== Proof.GqaReference.lean ====
module

public import proofs.«01_k».proof.Proof.Gen.GqaRefIdeal.Run
public import proofs.«01_k».proof.Proof.Softmax

/-! What the grouped-query attention's reference computes, index by index. -/

@[expose] public section

set_option maxRecDepth 16384
noncomputable section
open Idealize.ShloMosaic Idealize.ShloMosaic.TcCoe Idealize.SL.Sem

namespace Cert.GqaReference
open Cert.GqaRefIdeal Cert.GqaRefIdeal.Gen

/-- The scores: batch, key/value head, query head of its group, query row, key row. -/
def scores (Z : FVec Ideal S16384x3584 .bf16) : FVec Ideal S8x2x4x2048x2048 .f32 :=
  transpose S8x2x4x2048x2048 [0, 1, 4, 3, 2] (Host.dotGeneral dot_S8x2048x2x128_S8x2048x2x4x128_S8x2x2048x2048x4_3_4_1_13_02_02 none (shapeCast _ (extractStridedSlice S16384x256 ![0, 1024] (extf .f32 Z bitsLt_bf16_f32) slices_S16384x3584_S16384x256_0_1024) shapeCasts_S16384x256_S8x2048x2x128) (shapeCast _ (extractStridedSlice S16384x1024 ![0, 0] (extf .f32 Z bitsLt_bf16_f32) slices_S16384x3584_S16384x1024_0_0) shapeCasts_S16384x1024_S8x2048x2x4x128)) transposes_S8x2x2048x2048x4_S8x2x4x2048x2048_0_1_4_3_2

/-- The largest score of each row. -/
def tops (S : FVec Ideal S8x2x4x2048x2048 .f32) : FVec Ideal S8x2x4x2048 .f32 :=
  maximumf (broadcastInDim S8x2x4x2048 ![] bcast_S_S8x2x4x2048 (constant S_ .f32 0xFF800000#32)) (Host.reduce FloatOps.maximumf S (constant S_ .f32 0xFF800000#32) reducesTo_S8x2x4x2048x2048_S8x2x4x2048_d4 h_S_)

/-- The unnormalised weights of an array of scores. -/
def expos (S : FVec Ideal S8x2x4x2048x2048 .f32) : FVec Ideal S8x2x4x2048x2048 .f32 :=
  Host.exp (subf S (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (tops S))))

/-- The unnormalised weights divided by their row's total. -/
def weights (E : FVec Ideal S8x2x4x2048x2048 .f32) : FVec Ideal S8x2x4x2048x2048 .f32 :=
  Host.divf E (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (Host.reduceAdd E (constant S_ .f32 0x00000000#32) reducesTo_S8x2x4x2048x2048_S8x2x4x2048_d4 h_S_)))

/-- The weighted values, the heads back side by side. -/
def mixed (Z : FVec Ideal S16384x3584 .bf16) (W : FVec Ideal S8x2x4x2048x2048 .f32) : FVec Ideal S16384x1024 .bf16 :=
  truncf .bf16 (shapeCast _ (transpose S8x2048x2x4x128 [0, 4, 1, 3, 2] (Host.dotGeneral dot_S8x2048x2x128_S8x2x4x2048x2048_S8x2x128x4x2048_1_4_3_23_02_01 none (shapeCast _ (extractStridedSlice S16384x256 ![0, 1280] (extf .f32 Z bitsLt_bf16_f32) slices_S16384x3584_S16384x256_0_1280) shapeCasts_S16384x256_S8x2048x2x128) W) transposes_S8x2x128x4x2048_S8x2048x2x4x128_0_4_1_3_2) shapeCasts_S8x2048x2x4x128_S16384x1024) bitsLt_bf16_f32

/-- The reference's result as a function of its argument. -/
def result (Z : FVec Ideal S16384x3584 .bf16) : FVec Ideal S16384x1024 .bf16 :=
  mixed Z (weights (expos (scores Z)))

/-- The score of query row `q` against key row `k` is the inner product of the two rows of the head. -/
theorem scores_at (Z : FVec Ideal S16384x3584 .bf16) (b : Fin 8) (g : Fin 2) (h : Fin 4) (q k : Fin 2048) :
    scores Z (ix5 b g h q k)
      = ∑ e : Fin 128, Z (ix2 (⟨b * 2048 + q, by omega⟩ : Fin 16384) (⟨g * 512 + h * 128 + e, by omega⟩ : Fin 3584))
          * Z (ix2 (⟨b * 2048 + k, by omega⟩ : Fin 16384) (⟨1024 + (g * 128 + e), by omega⟩ : Fin 3584)) := by
  pointwise [scores]
  exact Finset.sum_congr rfl fun e _ => mul_comm _ _

/-- The largest score of a row, read at the row. -/
theorem tops_at (S : FVec Ideal S8x2x4x2048x2048 .f32) (b : Fin 8) (g : Fin 2) (h : Fin 4) (q : Fin 2048) :
    tops S (ix4 b g h q) = Softmax.rowMax fun k => S (ix5 b g h q k) :=
  Softmax.rowMax_at S reducesTo_S8x2x4x2048x2048_S8x2x4x2048_d4 h_S_ bcast_S_S8x2x4x2048 b g h q

/-- An unnormalised weight: the exponential of the score less the row's largest. -/
theorem expos_at (S : FVec Ideal S8x2x4x2048x2048 .f32) (b : Fin 8) (g : Fin 2) (h : Fin 4) (q k : Fin 2048) :
    expos S (ix5 b g h q k) = Softmax.expo (fun k => S (ix5 b g h q k)) k := by
  pointwise [expos, tops_at]
  rfl

/-- A weight: the unnormalised one over its row's total. -/
theorem weights_at (E : FVec Ideal S8x2x4x2048x2048 .f32) (b : Fin 8) (g : Fin 2) (h : Fin 4) (q k : Fin 2048) :
    weights E (ix5 b g h q k) = Ideal.div (E (ix5 b g h q k)) (∑ k, E (ix5 b g h q k)) := by
  pointwise [weights]

/-- An entry of the result: the weights of its head and row against a column of the values. -/
theorem mixed_at (Z : FVec Ideal S16384x3584 .bf16) (W : FVec Ideal S8x2x4x2048x2048 .f32) (r : Fin 16384) (d : Fin 1024) :
    mixed Z W (ix2 r d)
      = ∑ k : Fin 2048, Z (ix2 (⟨r / 2048 * 2048 + k, by omega⟩ : Fin 16384) (⟨1280 + (d / 512 * 128 + d % 128), by omega⟩ : Fin 3584))
          * W (ix5 (⟨r / 2048, by omega⟩ : Fin 8) (⟨d / 512, by omega⟩ : Fin 2) (⟨d / 128 % 4, by omega⟩ : Fin 4) (⟨r % 2048, by omega⟩ : Fin 2048) k) := by
  pointwise [mixed]

/-- The scores of row `r` of the result against every key row, for the head of column `d`. -/
def scoreRow (Z : FVec Ideal S16384x3584 .bf16) (r : Fin 16384) (d : Fin 1024) (k : Fin 2048) : EReal :=
  ∑ e : Fin 128, Z (ix2 r (⟨d / 128 * 128 + e, by omega⟩ : Fin 3584))
    * Z (ix2 (⟨r / 2048 * 2048 + k, by omega⟩ : Fin 16384) (⟨1024 + (d / 512 * 128 + e), by omega⟩ : Fin 3584))

/-- The values column `d` of the result weighs, row by row. -/
def valueCol (Z : FVec Ideal S16384x3584 .bf16) (r : Fin 16384) (d : Fin 1024) (k : Fin 2048) : EReal :=
  Z (ix2 (⟨r / 2048 * 2048 + k, by omega⟩ : Fin 16384) (⟨1280 + (d / 512 * 128 + d % 128), by omega⟩ : Fin 3584))

/-- An entry of the result is the sum of the head's value column weighed by the softmax of the row's scores. -/
theorem result_at (Z : FVec Ideal S16384x3584 .bf16) (r : Fin 16384) (d : Fin 1024) :
    result Z (ix2 r d) = ∑ k, valueCol Z r d k * Softmax.weight (scoreRow Z r d) k := by
  have hs : (fun k => scores Z (ix5 (⟨r / 2048, by omega⟩ : Fin 8) (⟨d / 512, by omega⟩ : Fin 2) (⟨d / 128 % 4, by omega⟩ : Fin 4) (⟨r % 2048, by omega⟩ : Fin 2048) k))
      = scoreRow Z r d := by
    funext k
    rw [scores_at]
    refine Finset.sum_congr rfl fun e _ => ?_
    congr 3 <;> ext <;> simp <;> omega
  rw [result, mixed_at]
  refine Finset.sum_congr rfl fun k _ => ?_
  rw [weights_at, valueCol, Softmax.weight, Softmax.total]
  simp only [expos_at, hs]

end Cert.GqaReference
end
-- ==== Proof.GqaValue.lean ====
module

public import proofs.«01_k».proof.Proof.GqaBlock
public import proofs.«01_k».proof.Proof.GqaReference

/-! The grouped-query attention kernel's result array is the reference's, for real queries and keys. -/

@[expose] public section

set_option maxRecDepth 16384
noncomputable section
open Idealize.ShloMosaic Idealize.ShloMosaic.TcCoe Idealize.SL.Sem
open Idealize.ShloMosaic.Pipeline (Dat)

namespace Cert.GqaValue
open Cert.GqaIdeal Cert.GqaIdeal.Gen

variable (m : (ℓ : Loc nD τ sig) → Buf (Elt Ideal) ℓ)

/-- The blocks a grid point takes: its batch, its group of query heads, its tile of query rows. -/
theorem idx : ∀ t : Fin cfg0.N, win0_0.index t = ![t.val / 16 * 8 + t.val % 8, t.val / 8 % 2] ∧ win0_1.index t = ![t.val / 16, 8 + t.val / 8 % 2]
    ∧ win0_2.index t = ![t.val / 16, 10 + t.val / 8 % 2] ∧ win0_3.index t = ![t.val / 16 * 8 + t.val % 8, t.val / 8 % 2] :=
  (by decide +kernel : ∀ t : Fin grid0.N, _)

/-- The argument array. -/
abbrev arg (c : Dev nD) : FVec Ideal S16384x3584 .bf16 := m ((c : Thread nD τ).loc main_arg0)

/-- The block of queries at a grid point. -/
abbrev qb (c : Dev nD) (t : Fin cfg0.N) : Vec Ideal S256x512 .bf16 := iblk m c 0 t
/-- The block of keys at a grid point. -/
abbrev kb (c : Dev nD) (t : Fin cfg0.N) : Vec Ideal S2048x128 .bf16 := iblk m c 1 t
/-- The block of values at a grid point. -/
abbrev vb (c : Dev nD) (t : Fin cfg0.N) : Vec Ideal S2048x128 .bf16 := iblk m c 2 t

/-- Where the block of queries at a grid point lies in the projected array. -/
theorem q_at (c : Dev nD) (t : Fin cfg0.N) (r : Fin 256) (e : Fin 512) (R : Fin 16384) (C : Fin 3584)
    (hR : (R : ℕ) = (t.val / 16 * 8 + t.val % 8) * 256 + r) (hC : (C : ℕ) = t.val / 8 % 2 * 512 + e) :
    qb m c t (ix2 r e) = arg m c (ix2 R C) := by
  blk_point [iblk, V, idx t]

/-- Where the block of keys at a grid point lies in the projected array. -/
theorem k_at (c : Dev nD) (t : Fin cfg0.N) (r : Fin 2048) (e : Fin 128) (R : Fin 16384) (C : Fin 3584)
    (hR : (R : ℕ) = t.val / 16 * 2048 + r) (hC : (C : ℕ) = (8 + t.val / 8 % 2) * 128 + e) :
    kb m c t (ix2 r e) = arg m c (ix2 R C) := by
  blk_point [iblk, V, idx t]

/-- Where the block of values at a grid point lies in the projected array. -/
theorem v_at (c : Dev nD) (t : Fin cfg0.N) (r : Fin 2048) (e : Fin 128) (R : Fin 16384) (C : Fin 3584)
    (hR : (R : ℕ) = t.val / 16 * 2048 + r) (hC : (C : ℕ) = (10 + t.val / 8 % 2) * 128 + e) :
    vb m c t (ix2 r e) = arg m c (ix2 R C) := by
  blk_point [iblk, V, idx t]

/-- A block's entry is the reference's entry at the row and the column the block's place gives it. -/
theorem core (c : Dev nD) (hz : ∀ (R : Fin 16384) (C : Fin 3584), C.val < 1280 → ∃ x : ℝ, arg m c (ix2 R C) = x)
    (t : Fin cfg0.N) (y : S256x512.Idx) (r : Fin 256) (e : Fin 512)
    (hr : (y 0 : ℕ) = r) (he : (y 1 : ℕ) = e) (R : Fin 16384) (C : Fin 1024)
    (hR : (R : ℕ) = (t.val / 16 * 8 + t.val % 8) * 256 + r) (hC : (C : ℕ) = t.val / 8 % 2 * 512 + e) :
    out0_3 (F := Ideal) (qb m c t) (kb m c t) (vb m c t) y = GqaReference.result (arg m c) (ix2 R C) := by
  have ht : t.val < 128 := lt_of_lt_of_eq t.isLt N_0
  have hs : (fun j => ∑ a : Fin 128, qb m c t (ix2 r (⟨e / 128 * 128 + a, by omega⟩ : Fin 512)) * kb m c t (ix2 j a))
      = GqaReference.scoreRow (arg m c) R C := by
    funext j
    refine Finset.sum_congr rfl fun a _ => ?_
    rw [q_at m c t r (⟨e / 128 * 128 + a, by omega⟩ : Fin 512) R ⟨C / 128 * 128 + a, by omega⟩ hR (by simp only; omega),
      k_at m c t j a ⟨R / 2048 * 2048 + j, by omega⟩ ⟨1024 + (C / 512 * 128 + a), by omega⟩ (by simp only; omega) (by simp only; omega)]
  have hv : (fun j => vb m c t (ix2 j (⟨e % 128, by omega⟩ : Fin 128))) = GqaReference.valueCol (arg m c) R C := by
    funext j
    exact v_at m c t j _ ⟨R / 2048 * 2048 + j, by omega⟩ ⟨1280 + (C / 512 * 128 + C % 128), by omega⟩ (by simp only; omega) (by simp only; omega)
  have hreal : ∀ j, ∃ x : ℝ, GqaReference.scoreRow (arg m c) R C j = x := fun j =>
    Softmax.sum_mul_is_real _ _ _ (fun a => hz _ _ (by simp only; omega)) (fun a => hz _ _ (by simp only; omega))
  rw [GqaBlock.out_at _ _ _ y r e hr he, GqaReference.result_at, ← Softmax.div_sum _ hreal, hs]
  exact congrArg (Ideal.div · _) (Finset.sum_congr rfl fun j _ => congrArg _ (congrFun hv j))

/-- The kernel's result array. -/
theorem final (c : Dev nD) (hz : ∀ (R : Fin 16384) (C : Fin 3584), C.val < 1280 → ∃ x : ℝ, arg m c (ix2 R C) = x) :
    (dats m 0 c).arrAt 3 (cfgs 0).N = GqaReference.result (arg m c) := by
  refine (dats m 0 c).arrAt_eq_of_covers 3 _ (by decide +kernel) fun t _ y => ?_
  have ht : t.val < 128 := lt_of_lt_of_eq t.isLt N_0
  blk_simp
  rw [after0_3]
  have h0 : (y 0).val < 256 := (y 0).isLt
  have h1 : (y 1).val < 512 := (y 1).isLt
  refine (core m c hz t y (y 0) (y 1) rfl rfl ⟨(t.val / 16 * 8 + t.val % 8) * 256 + y 0, by omega⟩ ⟨t.val / 8 % 2 * 512 + y 1, by omega⟩ rfl rfl).trans ?_
  blk_ext [idx t]

end Cert.GqaValue
end
-- ==== Proof.GqaClaim.lean ====
module

public import proofs.«01_k».proof.Defs
public import proofs.«01_k».proof.Proof.Gen.Gqa.Frame
public import proofs.«01_k».proof.Proof.Gen.Pre_finite_gqa
public import proofs.«01_k».proof.Proof.GqaValue
public import Idealize.ShloMosaic.Adequacy
public import Idealize.ShloMosaic.Lib.Claim
public import Idealize.ShloMosaic.PureOps.Ideal.Laws

/-! The claims about the grouped-query attention call. -/

@[expose] public section

set_option maxRecDepth 16384
noncomputable section
open Idealize.ShloMosaic Idealize.ShloMosaic.TcCoe Idealize.SL.Sem

namespace Cert.GqaClaim

instance : Cert.Gqa.Facts := Cert.Gqa.Gen.facts
instance : Cert.GqaIdeal.Facts := Cert.GqaIdeal.Gen.facts
instance : Cert.GqaRefIdeal.Facts := Cert.GqaRefIdeal.Gen.facts
instance : Cert.Pre_finite_gqa.Facts := Cert.Pre_finite_gqa.Gen.facts

/-- The kernel, run on bits, terminates with its argument unchanged. -/
theorem frame : Cert.quiescent_Gqa := fun m ρ _ => Cert.Gqa.Gen.frame m ρ

/-- The kernel, run on extended reals, terminates with its argument unchanged. -/
theorem frame_ideal : Cert.quiescent_GqaIdeal := fun m ρ _ => Cert.GqaIdeal.Gen.frame m ρ

/-- The kernel's frame on extended reals, under the precondition. -/
theorem frame_ideal_pre : Cert.quiescent_GqaIdeal_pre_finite_gqa := fun m ρ _ => Cert.GqaIdeal.Gen.frame m ρ

/-- The reference terminates with its argument unchanged. -/
theorem frame_ref : Cert.quiescent_GqaRefIdeal := fun m g _ =>
  (θ_run Cert.GqaRefIdeal.defs _ _).mono (fun r h => ⟨fun c => (h c).2, sem_eq_zero_of_no_sems (by decide) r.2⟩)
    (Cert.GqaRefIdeal.Value.run (F := Ideal) m g)

/-- The reference's frame, under the precondition. -/
theorem frame_ref_pre : Cert.quiescent_GqaRefIdeal_pre_finite_gqa := fun m g _ => frame_ref m g trivial

/-- Where the precondition holds, the columns of queries and keys hold real numbers. -/
theorem real_of_pre (Z : FVec Ideal Cert.Pre_finite_gqa.S16384x3584 .bf16) (h : Cert.Pre_finite_gqa.fn (F := Ideal) Z = fun _ => 1#1)
    (R : Fin 16384) (C : Fin 3584) (hC : C.val < 1280) : ∃ x : ℝ, Z (ix2 R C) = x := by
  have h1 := congrFun h (ix2 R (⟨C, hC⟩ : Fin 1280))
  refine Softmax.real_of_abs_lt _ ?_
  revert h1
  pointwise [Cert.Pre_finite_gqa.fn]
  rw [Softmax.ofBits_inf, Ideal.absf_def]
  intro h1
  by_contra hn
  rw [decide_eq_false hn] at h1
  exact absurd h1 (by decide)

/-- The kernel's result on extended reals is the reference's. -/
theorem algebraic : Cert.algebraic_GqaIdeal_GqaRefIdeal_pre_finite_gqa := by
  pair_intro
  · run_from Cert.GqaIdeal.Gen.run_main m g
  · hlo_run
    exact (Cert.GqaValue.final m c fun R C hC => real_of_pre _ (hpre c) R C hC).symm

end Cert.GqaClaim
end
-- ==== Proof.Rope.lean ====
module

public import Idealize.ShloMosaic.Lib.Pipeline.ValueKit
public import Idealize.ShloMosaic.Lib.Pointwise

/-! One head's row through the normalisation by its root mean square and the axial rotation, on the extended reals. -/

@[expose] public section

noncomputable section
open Idealize.ShloMosaic Idealize.ShloMosaic.TcCoe

namespace Cert.Rope

/-- The factor the queries carry. -/
def factor : EReal := Ideal.ofBits .f32 0x3DB504F3#32

/-- The rotation's frequencies. -/
def freq (j : Fin 32) : EReal :=
  Ideal.pow (Ideal.ofBits .f32 0x461C4000#32)
    (Ideal.div (-(Ideal.ofBits .f32 0x40000000#32 * FloatOps.sitofp (F := Ideal) .f32 (BitVec.ofNat 32 j))) (Ideal.ofBits .f32 0x42800000#32))

/-- An integer as an extended real. -/
def whole (n : ℕ) : EReal := FloatOps.sitofp (F := Ideal) .f32 (BitVec.ofNat 32 n)

/-- The angle of lane `d` at sequence position `t`: the first half of the lanes turns by the grid's row, the second by its column. -/
def angle (t : ℕ) (d : Fin 128) : EReal :=
  whole (if d.val < 64 then t / 64 else t % 64) * freq ⟨d.val % 32, by omega⟩

/-- A head's row divided by its root mean square, times the gain. -/
def normed (f g : Fin 128 → EReal) (d : Fin 128) : EReal :=
  f d * Ideal.rsqrt (Ideal.div (∑ e, f e * f e) (Ideal.ofBits .f32 0x43000000#32) + Ideal.ofBits .f32 0x358637BD#32) * g d

/-- A head's row turned: in each half of the lanes, lane `d` of its first 32 pairs with lane `d + 32`. -/
def turned (t : ℕ) (u : Fin 128 → EReal) (d : Fin 128) : EReal :=
  if d.val % 64 < 32 then u d * Ideal.cos (angle t d) - u ⟨(d + 32) % 128, by omega⟩ * Ideal.sin (angle t d)
  else u d * Ideal.cos (angle t d) + u ⟨(d + 96) % 128, by omega⟩ * Ideal.sin (angle t d)

/-- The same turn by two shifted copies of the row, each against a table that is zero where the copy doesn't take part. -/
theorem turned_by_shifts (t : ℕ) (u : Fin 128 → EReal) (d : Fin 128) (c up dn : EReal) (hc : c = Ideal.cos (angle t d))
    (hu : up = if d.val % 64 < 32 then -Ideal.sin (angle t d) else 0) (hd : dn = if d.val % 64 < 32 then 0 else Ideal.sin (angle t d)) :
    u d * c + u ⟨(d + 32) % 128, by omega⟩ * up + u ⟨(d + 96) % 128, by omega⟩ * dn = turned t u d := by
  subst hc hu hd
  unfold turned
  split
  · rw [mul_zero, add_zero, mul_neg, sub_eq_add_neg]
  · rw [mul_zero, add_zero]

/-- A row of the projection as the call leaves it, at sequence position `t`: eight query heads normalised, turned and scaled, two key heads
normalised and turned, then the remaining columns, the other branches' queries scaled. -/
def row (p : Fin 3584 → EReal) (gq gk : Fin 128 → EReal) (t : ℕ) (c : Fin 3584) : EReal :=
  if c.val < 1280 then
    let head (e : Fin 128) : EReal := p ⟨(c.val / 128 * 128 + e.val) % 3584, Nat.mod_lt _ (by decide)⟩
    if c.val < 1024 then turned t (normed head gq) ⟨c.val % 128, by omega⟩ * factor else turned t (normed head gk) ⟨c.val % 128, by omega⟩
  else if (1536 ≤ c.val ∧ c.val < 2048) ∨ 3072 ≤ c.val then p c * factor else p c

/-- The row at the query head `h`. -/
theorem row_query (p : Fin 3584 → EReal) (gq gk : Fin 128 → EReal) (t : ℕ) (c : Fin 3584) (h : Fin 8) (d : Fin 128) (hc : c.val = h.val * 128 + d.val) :
    row p gq gk t c = turned t (normed (fun e => p ⟨h.val * 128 + e.val, by omega⟩) gq) d * factor := by
  have h1 : c.val < 1280 := by omega
  have h2 : c.val < 1024 := by omega
  unfold row
  rw [if_pos h1]
  simp only [if_pos h2]
  congr 2
  · congr 1
    funext e
    exact congrArg p (Fin.ext (by simp only; omega))
  · exact Fin.ext (by simp only; omega)

/-- The row at the key head `h`. -/
theorem row_key (p : Fin 3584 → EReal) (gq gk : Fin 128 → EReal) (t : ℕ) (c : Fin 3584) (h : Fin 2) (d : Fin 128) (hc : c.val = 1024 + h.val * 128 + d.val) :
    row p gq gk t c = turned t (normed (fun e => p ⟨1024 + (h.val * 128 + e.val), by omega⟩) gk) d := by
  have h1 : c.val < 1280 := by omega
  have h2 : ¬ c.val < 1024 := by omega
  unfold row
  rw [if_pos h1]
  simp only [if_neg h2]
  congr 1
  · congr 1
    funext e
    exact congrArg p (Fin.ext (by simp only; omega))
  · exact Fin.ext (by simp only; omega)

/-- The row at the other branches' queries. -/
theorem row_scaled (p : Fin 3584 → EReal) (gq gk : Fin 128 → EReal) (t : ℕ) (c : Fin 3584) (hc : (1536 ≤ c.val ∧ c.val < 2048) ∨ 3072 ≤ c.val) :
    row p gq gk t c = p c * factor := by
  unfold row
  rw [if_neg (by omega), if_pos hc]

/-- The row at the remaining columns. -/
theorem row_plain (p : Fin 3584 → EReal) (gq gk : Fin 128 → EReal) (t : ℕ) (c : Fin 3584)
    (hc : (1280 ≤ c.val ∧ c.val < 1536) ∨ (2048 ≤ c.val ∧ c.val < 3072)) : row p gq gk t c = p c := by
  unfold row
  rw [if_neg (by omega), if_neg (by omega)]

end Cert.Rope
end
-- ==== Proof.InprojTiles.lean ====
module

public import proofs.«01_k».proof.Proof.Gen.InprojIdeal.Frame
public import proofs.«01_k».proof.Proof.Rope
public import Idealize.ShloMosaic.Lib.Pipeline.ValueKit
public import Idealize.ShloMosaic.Lib.Pointwise

/-! The four kinds of tiles the input projection's kernel writes, 128 columns each: query heads, key heads, columns as they are, columns scaled. -/

@[expose] public section

set_option maxRecDepth 16384
noncomputable section
open Idealize.ShloMosaic Idealize.ShloMosaic.TcCoe Idealize.ShloMosaic.Tactic Idealize.SL.Sem

namespace Cert.InprojTiles
open Cert.InprojIdeal Cert.InprojIdeal.Gen

/-- The product of a block of rows and 256 columns of the weights. -/
def prod (x : Vec Ideal S512x2048 .f32) (w : Vec Ideal S2048x256 .bf16) : FVec Ideal S512x256 .f32 :=
  matmul (φ₂ := .bf16) dot_S512x2048_S2048x256_S512x256_1_0_0_1_n_n none (k0_pay2 x) (shapeCast S2048x256 w shapeCasts_S2048x256_S2048x256) (constant S512x256 .f32 0x00000000#32)

/-- An entry of a tile of the product. -/
theorem prod_at (x : Vec Ideal S512x2048 .f32) (w : Vec Ideal S2048x256 .bf16) (r : Fin 512) (n : Fin 256) :
    prod x w (ix2 r n) = ∑ e : Fin 2048, x (ix2 r e) * w (ix2 e n) := by
  pointwise [prod, k0_pay2]

/-- The first 128 of the 256 columns. -/
def low (x : Vec Ideal S512x2048 .f32) (w : Vec Ideal S2048x256 .bf16) : FVec Ideal S512x128 .f32 :=
  extractStridedSlice S512x128 ![0, 0] (prod x w) slices_S512x256_o0_0_S512x128

/-- The last 128 of the 256 columns. -/
def high (x : Vec Ideal S512x2048 .f32) (w : Vec Ideal S2048x256 .bf16) : FVec Ideal S512x128 .f32 :=
  extractStridedSlice S512x128 ![0, 128] (prod x w) slices_S512x256_o0_128_S512x128

/-- A head's rows divided by their root mean squares, times the gain. -/
def normed (z : FVec Ideal S512x128 .f32) (g : Vec Ideal S1x128 .f32) : FVec Ideal S512x128 .f32 :=
  mulf (mulf z (broadcastTo S512x128 (rsqrt (addf (divf (shapeCast S512x1 (multiReduction (F := Ideal) .add [1] S512 (mulf z z) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 g shapeCasts_S1x128_S1x128) broadcasts_S1x128_S512x128)

/-- An entry of a normalised head. -/
theorem normed_at (z : FVec Ideal S512x128 .f32) (g : Vec Ideal S1x128 .f32) (r : Fin 512) (d : Fin 128) :
    normed z g (ix2 r d) = Rope.normed (fun e => z (ix2 r e)) (fun e => g (ix2 0 e)) d := by
  pointwise [normed]
  rfl

/-- A head's rows turned by two rotations of their lanes. -/
def turned (u : FVec Ideal S512x128 .f32) (c up dn : Vec Ideal S512x128 .f32) : FVec Ideal S512x128 .f32 :=
  addf (addf (mulf u (shapeCast S512x128 c shapeCasts_S512x128_S512x128)) (mulf (dynamicRotate 1 96#32 none u rotates_S512x128_d1) (shapeCast S512x128 up shapeCasts_S512x128_S512x128))) (mulf (dynamicRotate 1 32#32 none u rotates_S512x128_d1) (shapeCast S512x128 dn shapeCasts_S512x128_S512x128))

/-- The tables a block of rows is turned by, at its rows' sequence positions. -/
structure Tables (c up dn : Vec Ideal S512x128 .f32) (T : Fin 512 → ℕ) : Prop where
  cos_at : ∀ r d, c (ix2 r d) = Ideal.cos (Rope.angle (T r) d)
  up_at : ∀ (r : Fin 512) (d : Fin 128), up (ix2 r d) = if d.val % 64 < 32 then -Ideal.sin (Rope.angle (T r) d) else 0
  down_at : ∀ (r : Fin 512) (d : Fin 128), dn (ix2 r d) = if d.val % 64 < 32 then 0 else Ideal.sin (Rope.angle (T r) d)

/-- A head turned by the three tables is a head turned by the angle. -/
theorem turned_at {c up dn : Vec Ideal S512x128 .f32} {T : Fin 512 → ℕ} (h : Tables c up dn T) (u : FVec Ideal S512x128 .f32) (r : Fin 512) (d : Fin 128) :
    turned u c up dn (ix2 r d) = Rope.turned (T r) (fun e => u (ix2 r e)) d := by
  pointwise [turned]
  refine Eq.trans ?_ (Rope.turned_by_shifts (T r) (fun e => u (ix2 r e)) d _ _ _ (h.cos_at r d) (h.up_at r d) (h.down_at r d))
  simp only [show d.val + 128 - 96 = d.val + 32 by omega, show d.val + 128 - 32 = d.val + 96 by omega]

/-- A query head's tile. -/
def query (z : FVec Ideal S512x128 .f32) (c up dn : Vec Ideal S512x128 .f32) (g : Vec Ideal S1x128 .f32) : FVec Ideal S512x128 .bf16 :=
  truncf .bf16 (mulf (turned (normed z g) c up dn) (broadcast S512x128 (Scalar.ofBits .f32 0x3DB504F3#32))) bitsLt_bf16_f32

/-- A key head's tile. -/
def key (z : FVec Ideal S512x128 .f32) (c up dn : Vec Ideal S512x128 .f32) (g : Vec Ideal S1x128 .f32) : FVec Ideal S512x128 .bf16 :=
  truncf .bf16 (turned (normed z g) c up dn) bitsLt_bf16_f32

/-- A tile of columns as they are. -/
def plain (z : FVec Ideal S512x128 .f32) : FVec Ideal S512x128 .bf16 := truncf .bf16 z bitsLt_bf16_f32

/-- A tile of scaled columns. -/
def scaled (z : FVec Ideal S512x128 .f32) : FVec Ideal S512x128 .bf16 :=
  truncf .bf16 (mulf z (broadcast S512x128 (Scalar.ofBits .f32 0x3DB504F3#32))) bitsLt_bf16_f32

/-- An entry of a query tile. -/
theorem query_at {c up dn : Vec Ideal S512x128 .f32} {T : Fin 512 → ℕ} (h : Tables c up dn T) (z : FVec Ideal S512x128 .f32) (g : Vec Ideal S1x128 .f32) (r : Fin 512) (d : Fin 128) :
    query z c up dn g (ix2 r d) = Rope.turned (T r) (Rope.normed (fun e => z (ix2 r e)) (fun e => g (ix2 0 e))) d * Rope.factor := by
  refine congrArg (· * Rope.factor) ((turned_at h (normed z g) r d).trans ?_)
  exact congrArg (fun f => Rope.turned (T r) f d) (funext fun e => normed_at z g r e)

/-- An entry of a key tile. -/
theorem key_at {c up dn : Vec Ideal S512x128 .f32} {T : Fin 512 → ℕ} (h : Tables c up dn T) (z : FVec Ideal S512x128 .f32) (g : Vec Ideal S1x128 .f32) (r : Fin 512) (d : Fin 128) :
    key z c up dn g (ix2 r d) = Rope.turned (T r) (Rope.normed (fun e => z (ix2 r e)) (fun e => g (ix2 0 e))) d := by
  refine (turned_at h (normed z g) r d).trans ?_
  exact congrArg (fun f => Rope.turned (T r) f d) (funext fun e => normed_at z g r e)

/-- A block's row of the projection. -/
def row (x : Vec Ideal S512x2048 .f32) (W : Vec Ideal S2048x3584 .bf16) (r : Fin 512) (n : Fin 3584) : EReal :=
  ∑ e : Fin 2048, x (ix2 r e) * W (ix2 e n)

/-- `w` is the 256 columns of the weights from column `o` on. -/
def Columns (W : Vec Ideal S2048x3584 .bf16) (o : ℕ) (w : Vec Ideal S2048x256 .bf16) : Prop :=
  ∀ (e : Fin 2048) (n : Fin 256) (k : Fin 3584), k.val = o + n → w (ix2 e n) = W (ix2 e k)

/-- The first head of a tile of the product holds the columns from `o`. -/
theorem low_at {W : Vec Ideal S2048x3584 .bf16} {o : ℕ} {w : Vec Ideal S2048x256 .bf16} (hw : Columns W o w) (x : Vec Ideal S512x2048 .f32) (r : Fin 512)
    (d : Fin 128) (k : Fin 3584) (hk : k.val = o + d) : low x w (ix2 r d) = row x W r k := by
  pointwise [low, prod_at]
  exact Finset.sum_congr rfl fun e _ => congrArg _ (hw e _ k (by simp only; omega))

/-- The second head of a tile of the product holds the columns from `o + 128`. -/
theorem high_at {W : Vec Ideal S2048x3584 .bf16} {o : ℕ} {w : Vec Ideal S2048x256 .bf16} (hw : Columns W o w) (x : Vec Ideal S512x2048 .f32) (r : Fin 512)
    (d : Fin 128) (k : Fin 3584) (hk : k.val = o + 128 + d) : high x w (ix2 r d) = row x W r k := by
  pointwise [high, prod_at]
  exact Finset.sum_congr rfl fun e _ => congrArg _ (hw e _ k (by simp only; omega))

/-- The columns a load of the weights takes. -/
theorem load_columns (W : Vec Ideal S2048x3584 .bf16) (o : ℕ) (inb) :
    Columns W o (View.ld W (Rect.unit (s := S2048x3584) ![0, o] ![2048, 256] inb)) := by
  intro e n k hk
  refine congrArg W (funext fun a => ?_)
  match a with
  | ⟨0, _⟩ => exact Fin.ext (show 0 + 1 * (e : ℕ) = e by omega)
  | ⟨1, _⟩ => exact Fin.ext (show o + 1 * (n : ℕ) = k by omega)

/-- What the kernel leaves in row `r` and column `k` of its output block. -/
def block (x : Vec Ideal S512x2048 .f32) (W : Vec Ideal S2048x3584 .bf16) (gq gk : Vec Ideal S1x128 .f32) (T : Fin 512 → ℕ) (r : Fin 512) (k : Fin 3584) : EReal :=
  Rope.row (row x W r) (fun e => gq (ix2 0 e)) (fun e => gk (ix2 0 e)) (T r) k

section Pieces
variable {c up dn : Vec Ideal S512x128 .f32} {T : Fin 512 → ℕ} (H : Tables c up dn T) (x : Vec Ideal S512x2048 .f32) (W : Vec Ideal S2048x3584 .bf16)
  (gq gk : Vec Ideal S1x128 .f32) (o : ℕ) (w : Vec Ideal S2048x256 .bf16) (hw : Columns W o w) (y : S512x128.Idx) (r : Fin 512) (k : Fin 3584)
  (hr : (y 0 : ℕ) = r)

/-- An index of a tile is a pair. -/
theorem pair (y : S512x128.Idx) (r : Fin 512) (hr : (y 0 : ℕ) = r) : ∃ d : Fin 128, y = ix2 r d ∧ (y 1 : ℕ) = d :=
  ⟨y 1, by funext i; match i with | ⟨0, _⟩ => exact Fin.ext hr | ⟨1, _⟩ => rfl, rfl⟩

include H hw hr in
/-- The first head of a query tile is its part of the block. -/
theorem query_low (h : Fin 8) (ho : o = h * 128) (hk : k.val = o + (y 1 : ℕ)) :
    query (low x w) c up dn gq y = block x W gq gk T r k := by
  obtain ⟨d, rfl, hd⟩ := pair y r hr
  have hk' : k.val = h.val * 128 + d := by rw [hk, ho, hd]
  rw [query_at H, block, Rope.row_query _ _ _ _ _ h d hk']
  exact congrArg (fun f => Rope.turned (T r) (Rope.normed f _) d * Rope.factor) (funext fun e => low_at hw x r e _ (by simp only; omega))

include H hw hr in
/-- The second head of a query tile is its part of the block. -/
theorem query_high (h : Fin 8) (ho : o + 128 = h * 128) (hk : k.val = o + 128 + (y 1 : ℕ)) :
    query (high x w) c up dn gq y = block x W gq gk T r k := by
  obtain ⟨d, rfl, hd⟩ := pair y r hr
  have hk' : k.val = h.val * 128 + d := by rw [hk, ho, hd]
  rw [query_at H, block, Rope.row_query _ _ _ _ _ h d hk']
  exact congrArg (fun f => Rope.turned (T r) (Rope.normed f _) d * Rope.factor) (funext fun e => high_at hw x r e _ (by simp only; omega))

include H hw hr in
/-- The first head of the key tile is its part of the block. -/
theorem key_low (ho : o = 1024) (hk : k.val = o + (y 1 : ℕ)) : key (low x w) c up dn gk y = block x W gq gk T r k := by
  obtain ⟨d, rfl, hd⟩ := pair y r hr
  rw [key_at H, block, Rope.row_key _ _ _ _ _ 0 d (by rw [hk, ho, hd]; rfl)]
  exact congrArg (fun f => Rope.turned (T r) (Rope.normed f _) d) (funext fun e => low_at hw x r e _ (by simp [ho]))

include H hw hr in
/-- The second head of the key tile is its part of the block. -/
theorem key_high (ho : o = 1024) (hk : k.val = o + 128 + (y 1 : ℕ)) : key (high x w) c up dn gk y = block x W gq gk T r k := by
  obtain ⟨d, rfl, hd⟩ := pair y r hr
  rw [key_at H, block, Rope.row_key _ _ _ _ _ 1 d (by rw [hk, ho, hd]; rfl)]
  exact congrArg (fun f => Rope.turned (T r) (Rope.normed f _) d) (funext fun e => high_at hw x r e _ (by simp [ho]; omega))

include hw hr in
/-- The first head of a tile stored as it is is its part of the block. -/
theorem plain_low (ho : (1280 ≤ o ∧ o + 256 ≤ 1536) ∨ (2048 ≤ o ∧ o + 256 ≤ 3072)) (hk : k.val = o + (y 1 : ℕ)) :
    plain (low x w) y = block x W gq gk T r k := by
  obtain ⟨d, rfl, hd⟩ := pair y r hr
  rw [block, Rope.row_plain _ _ _ _ _ (by omega)]
  exact low_at hw x r d k (by omega)

include hw hr in
/-- The second head of a tile stored as it is is its part of the block. -/
theorem plain_high (ho : (1280 ≤ o ∧ o + 256 ≤ 1536) ∨ (2048 ≤ o ∧ o + 256 ≤ 3072)) (hk : k.val = o + 128 + (y 1 : ℕ)) :
    plain (high x w) y = block x W gq gk T r k := by
  obtain ⟨d, rfl, hd⟩ := pair y r hr
  rw [block, Rope.row_plain _ _ _ _ _ (by omega)]
  exact high_at hw x r d k (by omega)

include hw hr in
/-- The first head of a scaled tile is its part of the block. -/
theorem scaled_low (ho : (1536 ≤ o ∧ o + 256 ≤ 2048) ∨ 3072 ≤ o) (hk : k.val = o + (y 1 : ℕ)) :
    scaled (low x w) y = block x W gq gk T r k := by
  obtain ⟨d, rfl, hd⟩ := pair y r hr
  rw [block, Rope.row_scaled _ _ _ _ _ (by omega)]
  exact congrArg (· * Rope.factor) (low_at hw x r d k (by omega))

include hw hr in
/-- The second head of a scaled tile is its part of the block. -/
theorem scaled_high (ho : (1536 ≤ o ∧ o + 256 ≤ 2048) ∨ 3072 ≤ o) (hk : k.val = o + 128 + (y 1 : ℕ)) :
    scaled (high x w) y = block x W gq gk T r k := by
  obtain ⟨d, rfl, hd⟩ := pair y r hr
  rw [block, Rope.row_scaled _ _ _ _ _ (by omega)]
  exact congrArg (· * Rope.factor) (high_at hw x r d k (by omega))

end Pieces

end Cert.InprojTiles
end
-- ==== Proof.InprojBlock.lean ====
module

public import proofs.«01_k».proof.Proof.InprojTiles

/-! What the input projection's kernel leaves in its output block: 28 tiles side by side. -/

@[expose] public section

set_option maxRecDepth 16384
noncomputable section
open Idealize.ShloMosaic Idealize.ShloMosaic.TcCoe Idealize.ShloMosaic.Tactic Idealize.SL.Sem

namespace Cert.InprojBlock
open Cert.InprojIdeal Cert.InprojIdeal.Gen Cert.InprojTiles

variable (m : (ℓ : Loc nD τ sig) → Buf (Elt Ideal) ℓ) (c : Dev nD)

/-- The 28 tiles lie side by side in the block, 128 columns each. -/
theorem out_at (t : Fin cfg0.N) {T : Fin 512 → ℕ} (H : Tables (iblk m c 4 t) (iblk m c 5 t) (iblk m c 6 t) T) (y : S512x3584.Idx) (r : Fin 512) (k : Fin 3584)
    (hr : (y 0 : ℕ) = r) (hk : (y 1 : ℕ) = k) :
    outsAt0 m c t y = block (iblk m c 0 t) (X0_1 m c t) (iblk m c 2 t) (iblk m c 3 t) T r k := by
  unfold outsAt0
  frame_out
  canon_tiles x h
  case piece0 => exact scaled_high (iblk m c 0 t) (X0_1 m c t) (iblk m c 2 t) (iblk m c 3 t) 3328 _ (load_columns _ 3328 _) x r k (by omega) (by decide) (by omega)
  case piece1 => exact scaled_low (iblk m c 0 t) (X0_1 m c t) (iblk m c 2 t) (iblk m c 3 t) 3328 _ (load_columns _ 3328 _) x r k (by omega) (by decide) (by omega)
  case piece2 => exact scaled_high (iblk m c 0 t) (X0_1 m c t) (iblk m c 2 t) (iblk m c 3 t) 3072 _ (load_columns _ 3072 _) x r k (by omega) (by decide) (by omega)
  case piece3 => exact scaled_low (iblk m c 0 t) (X0_1 m c t) (iblk m c 2 t) (iblk m c 3 t) 3072 _ (load_columns _ 3072 _) x r k (by omega) (by decide) (by omega)
  case piece4 => exact plain_high (iblk m c 0 t) (X0_1 m c t) (iblk m c 2 t) (iblk m c 3 t) 2816 _ (load_columns _ 2816 _) x r k (by omega) (by decide) (by omega)
  case piece5 => exact plain_low (iblk m c 0 t) (X0_1 m c t) (iblk m c 2 t) (iblk m c 3 t) 2816 _ (load_columns _ 2816 _) x r k (by omega) (by decide) (by omega)
  case piece6 => exact plain_high (iblk m c 0 t) (X0_1 m c t) (iblk m c 2 t) (iblk m c 3 t) 2560 _ (load_columns _ 2560 _) x r k (by omega) (by decide) (by omega)
  case piece7 => exact plain_low (iblk m c 0 t) (X0_1 m c t) (iblk m c 2 t) (iblk m c 3 t) 2560 _ (load_columns _ 2560 _) x r k (by omega) (by decide) (by omega)
  case piece8 => exact plain_high (iblk m c 0 t) (X0_1 m c t) (iblk m c 2 t) (iblk m c 3 t) 2304 _ (load_columns _ 2304 _) x r k (by omega) (by decide) (by omega)
  case piece9 => exact plain_low (iblk m c 0 t) (X0_1 m c t) (iblk m c 2 t) (iblk m c 3 t) 2304 _ (load_columns _ 2304 _) x r k (by omega) (by decide) (by omega)
  case piece10 => exact plain_high (iblk m c 0 t) (X0_1 m c t) (iblk m c 2 t) (iblk m c 3 t) 2048 _ (load_columns _ 2048 _) x r k (by omega) (by decide) (by omega)
  case piece11 => exact plain_low (iblk m c 0 t) (X0_1 m c t) (iblk m c 2 t) (iblk m c 3 t) 2048 _ (load_columns _ 2048 _) x r k (by omega) (by decide) (by omega)
  case piece12 => exact scaled_high (iblk m c 0 t) (X0_1 m c t) (iblk m c 2 t) (iblk m c 3 t) 1792 _ (load_columns _ 1792 _) x r k (by omega) (by decide) (by omega)
  case piece13 => exact scaled_low (iblk m c 0 t) (X0_1 m c t) (iblk m c 2 t) (iblk m c 3 t) 1792 _ (load_columns _ 1792 _) x r k (by omega) (by decide) (by omega)
  case piece14 => exact scaled_high (iblk m c 0 t) (X0_1 m c t) (iblk m c 2 t) (iblk m c 3 t) 1536 _ (load_columns _ 1536 _) x r k (by omega) (by decide) (by omega)
  case piece15 => exact scaled_low (iblk m c 0 t) (X0_1 m c t) (iblk m c 2 t) (iblk m c 3 t) 1536 _ (load_columns _ 1536 _) x r k (by omega) (by decide) (by omega)
  case piece16 => exact plain_high (iblk m c 0 t) (X0_1 m c t) (iblk m c 2 t) (iblk m c 3 t) 1280 _ (load_columns _ 1280 _) x r k (by omega) (by decide) (by omega)
  case piece17 => exact plain_low (iblk m c 0 t) (X0_1 m c t) (iblk m c 2 t) (iblk m c 3 t) 1280 _ (load_columns _ 1280 _) x r k (by omega) (by decide) (by omega)
  case piece18 => exact key_high H (iblk m c 0 t) (X0_1 m c t) (iblk m c 2 t) (iblk m c 3 t) 1024 _ (load_columns _ 1024 _) x r k (by omega) rfl (by omega)
  case piece19 => exact key_low H (iblk m c 0 t) (X0_1 m c t) (iblk m c 2 t) (iblk m c 3 t) 1024 _ (load_columns _ 1024 _) x r k (by omega) rfl (by omega)
  case piece20 => exact query_high H (iblk m c 0 t) (X0_1 m c t) (iblk m c 2 t) (iblk m c 3 t) 768 _ (load_columns _ 768 _) x r k (by omega) 7 rfl (by omega)
  case piece21 => exact query_low H (iblk m c 0 t) (X0_1 m c t) (iblk m c 2 t) (iblk m c 3 t) 768 _ (load_columns _ 768 _) x r k (by omega) 6 rfl (by omega)
  case piece22 => exact query_high H (iblk m c 0 t) (X0_1 m c t) (iblk m c 2 t) (iblk m c 3 t) 512 _ (load_columns _ 512 _) x r k (by omega) 5 rfl (by omega)
  case piece23 => exact query_low H (iblk m c 0 t) (X0_1 m c t) (iblk m c 2 t) (iblk m c 3 t) 512 _ (load_columns _ 512 _) x r k (by omega) 4 rfl (by omega)
  case piece24 => exact query_high H (iblk m c 0 t) (X0_1 m c t) (iblk m c 2 t) (iblk m c 3 t) 256 _ (load_columns _ 256 _) x r k (by omega) 3 rfl (by omega)
  case piece25 => exact query_low H (iblk m c 0 t) (X0_1 m c t) (iblk m c 2 t) (iblk m c 3 t) 256 _ (load_columns _ 256 _) x r k (by omega) 2 rfl (by omega)
  case piece26 => exact query_high H (iblk m c 0 t) (X0_1 m c t) (iblk m c 2 t) (iblk m c 3 t) 0 _ (load_columns _ 0 _) x r k (by omega) 1 rfl (by omega)
  case piece27 => exact query_low H (iblk m c 0 t) (X0_1 m c t) (iblk m c 2 t) (iblk m c 3 t) 0 _ (load_columns _ 0 _) x r k (by omega) 0 rfl (by omega)

end Cert.InprojBlock
end
-- ==== Proof.InprojLiterals.lean ====
module

public import proofs.«01_k».proof.Proof.Gen.InprojIdeal.Frame
public import proofs.«01_k».proof.Proof.Rope
public import Idealize.ShloMosaic.PureOps.Ideal.Laws

/-! The literal arrays the input projection's tables are made of: which coordinate of the grid and which frequency a lane takes, on which side
of its pair it lies, and the coordinates themselves, small integers written as floats. -/

@[expose] public section

set_option maxRecDepth 16384
noncomputable section
open Idealize.ShloMosaic Idealize.ShloMosaic.TcCoe Idealize.SL.Sem

namespace Cert.InprojLiterals
open Cert.InprojIdeal Cert.InprojIdeal.Gen

/-- For each lane, which of a position's two coordinates turns it. -/
def half : IVec S128x1 32 :=
  broadcastInDim S128x1 ![0] bcast_S128_S128x1_0 (select (constantI S128 1 0#1) (addi (fun i => lit1 (S128.rowMajor i)) (broadcastInDim S128 ![] bcast_S_S128 (constantI S_ 32 2#32))) fun i => lit1 (S128.rowMajor i))

/-- For each lane, the number of its frequency. -/
def number : IVec S128x1 32 :=
  broadcastInDim S128x1 ![0] bcast_S128_S128x1_0 (select (constantI S128 1 0#1) (addi (fun i => lit2 (S128.rowMajor i)) (broadcastInDim S128 ![] bcast_S_S128 (constantI S_ 32 32#32))) fun i => lit2 (S128.rowMajor i))

/-- The first 64 lanes take coordinate 0, the last 64 coordinate 1. -/
theorem half_at (l : Fin 128) : min (half (ix2 l 0)).toInt.toNat 1 = l.val / 64 :=
  (by decide +kernel : ∀ l : Fin 128, min (half (ix2 l 0)).toInt.toNat 1 = l.val / 64) l

/-- The frequencies repeat every 32 lanes. -/
theorem number_at (l : Fin 128) : min (number (ix2 l 0)).toInt.toNat 31 = l.val % 32 :=
  (by decide +kernel : ∀ l : Fin 128, min (number (ix2 l 0)).toInt.toNat 31 = l.val % 32) l

/-- The first 32 of each 64 lanes are the left sides of their pairs. -/
theorem side_at (l : Fin 128) : lit3 (S128.rowMajor (ix1 l)) = if l.val % 64 < 32 then 1#1 else 0#1 :=
  (by decide +kernel : ∀ l : Fin 128, lit3 (S128.rowMajor (ix1 l)) = if l.val % 64 < 32 then 1#1 else 0#1) l

/-- The first gather takes, for a position and a lane, the position's coordinate. -/
theorem half_idx (t : Fin 2048) (l : Fin 128) :
    gather_S2048x2_S128x1_S2048x128_0_1_n_n_1_1_20481.operandIdx (ix2 t l) half = ix2 t ⟨l.val / 64, by omega⟩ := by
  funext a
  match a with
  | ⟨0, _⟩ => exact Fin.ext (show 0 + 0 + t.val = t.val by omega)
  | ⟨1, _⟩ =>
    refine Fin.ext (Eq.trans ?_ (half_at l))
    show min (half (gather_S2048x2_S128x1_S2048x128_0_1_n_n_1_1_20481.siIdx (ix2 t l) ⟨0, by decide⟩)).toInt.toNat 1 = _
    congr 4
    funext b
    match b with
    | ⟨0, _⟩ => rfl
    | ⟨1, _⟩ => rfl

/-- The second gather takes the lane's frequency. -/
theorem number_idx (l : Fin 128) :
    gather_S32_S128x1_S128_n_0_n_n_0_1_1.operandIdx (ix1 l) number = ix1 ⟨l.val % 32, by omega⟩ := by
  funext a
  match a with
  | ⟨0, _⟩ =>
    refine Fin.ext (Eq.trans ?_ (number_at l))
    show min (number (gather_S32_S128x1_S128_n_0_n_n_0_1_1.siIdx (ix1 l) ⟨0, by decide⟩)).toInt.toNat 31 = _
    congr 4
    funext b
    match b with
    | ⟨0, _⟩ => rfl
    | ⟨1, _⟩ => rfl

/-- The integers below 64 as floats. -/
def bits (n : Fin 64) : BitVec 32 := lit0 ⟨2 * n + 1, by omega⟩

/-- A position's first coordinate is its row, -/
theorem row_bits (t : Fin 2048) : lit0 (S2048x2.rowMajor (ix2 t 0)) = bits ⟨t / 64, by omega⟩ :=
  (by decide +kernel : ∀ t : Fin 2048, lit0 (S2048x2.rowMajor (ix2 t 0)) = bits ⟨t / 64, by omega⟩) t

/-- its second its column. -/
theorem col_bits (t : Fin 2048) : lit0 (S2048x2.rowMajor (ix2 t 1)) = bits ⟨t % 64, by omega⟩ :=
  (by decide +kernel : ∀ t : Fin 2048, lit0 (S2048x2.rowMajor (ix2 t 1)) = bits ⟨t % 64, by omega⟩) t

/-- The sign, the exponent and the fraction of a float that is a positive integer. -/
theorem bits_parts (n : Fin 64) (hn : n ≠ 0) : ((bits n).extractLsb' (8 + 23) 1 == 1#1) = false
    ∧ ((bits n).extractLsb' 23 8).toNat = 127 + Nat.log2 n ∧ 2 ^ 23 + ((bits n).extractLsb' 0 23).toNat = n.val * 2 ^ (23 - Nat.log2 n)
    ∧ Nat.log2 n < 6 :=
  (by decide +kernel : ∀ n : Fin 64, n ≠ 0 → ((bits n).extractLsb' (8 + 23) 1 == 1#1) = false
    ∧ ((bits n).extractLsb' 23 8).toNat = 127 + Nat.log2 n ∧ 2 ^ 23 + ((bits n).extractLsb' 0 23).toNat = n.val * 2 ^ (23 - Nat.log2 n)
    ∧ Nat.log2 n < 6) n hn

/-- Those floats are the integers they are written for. -/
theorem bits_eq (n : Fin 64) : Ideal.ofBits .f32 (bits n) = Rope.whole n := by
  have hw : Rope.whole n = ((n.val : ℝ) : EReal) := by
    have h : (BitVec.ofNat 32 n.val).toInt = (n.val : ℤ) := (by decide : ∀ n : Fin 64, (BitVec.ofNat 32 n.val).toInt = (n.val : ℤ)) n
    show (((BitVec.ofNat 32 n.val).toInt : ℝ) : EReal) = _
    rw [h, Int.cast_natCast]
  rw [hw]
  by_cases hn : n = 0
  · subst hn
    rw [show bits 0 = 0x00000000#32 from by decide +kernel, Ideal.ofBits_zero_f32]
    simp
  · obtain ⟨h1, h2, h3, h4⟩ := bits_parts n hn
    generalize Nat.log2 n = k at h2 h3 h4
    show Ideal.ieee 8 23 (bits n) = _
    unfold Ideal.ieee
    simp only [h1, h2, h3]
    rw [if_neg (by omega), if_neg (by omega)]
    refine congrArg _ ?_
    have hk : (((127 + k : ℕ) : ℤ) - (2 ^ (8 - 1) - 1) - ((23 : ℕ) : ℤ)) = -(((23 - k : ℕ)) : ℤ) := by push_cast; omega
    rw [hk, zpow_neg, zpow_natCast]
    push_cast
    field_simp

end Cert.InprojLiterals
end
-- ==== Proof.InprojTables.lean ====
module

public import proofs.«01_k».proof.Proof.InprojLiterals
public import Idealize.ShloMosaic.Lib.Pipeline.ValueKit
public import Idealize.ShloMosaic.Lib.Pointwise

/-! The tables the input projection's kernel turns the heads by, as the host computes them before the call. -/

@[expose] public section

set_option maxRecDepth 16384
noncomputable section
open Idealize.ShloMosaic Idealize.ShloMosaic.TcCoe Idealize.ShloMosaic.Tactic Idealize.SL.Sem

namespace Cert.InprojTables
open Cert.InprojIdeal Cert.InprojIdeal.Gen Cert.InprojLiterals

variable (m : (ℓ : Loc nD τ sig) → Buf (Elt Ideal) ℓ) (c : Dev nD)

/-- The frequencies. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The kernel's table of frequencies. -/
theorem freqs_at (j : Fin 32) : freqs (ix1 j) = Rope.freq j := by
  pointwise [freqs]
  rfl

/-- For each position and lane, the coordinate that turns the lane. -/
def coords : FVec Ideal S2048x128 .f32 :=
  Host.gather gather_S2048x2_S128x1_S2048x128_0_1_n_n_1_1_20481 (fun i => FloatOps.ofBits .f32 (lit0 (S2048x2.rowMajor i))) half

/-- The coordinate a lane turns by: the grid row in the first half of a head, the grid column in the second. -/
theorem coords_at (t : Fin 2048) (l : Fin 128) : coords (ix2 t l) = Rope.whole (if l.val < 64 then t / 64 else t % 64) := by
  have hl : l.val < 128 := l.isLt
  refine (congrArg (fun i => Ideal.ofBits .f32 (lit0 (S2048x2.rowMajor i))) (half_idx t l)).trans ?_
  by_cases h : l.val < 64
  · rw [if_pos h, show (⟨l.val / 64, by omega⟩ : Fin 2) = 0 from Fin.ext (by simp only [Fin.val_zero]; omega)]
    exact (congrArg _ (row_bits t)).trans (bits_eq _)
  · rw [if_neg h, show (⟨l.val / 64, by omega⟩ : Fin 2) = 1 from Fin.ext (by simp only [Fin.val_one]; omega)]
    exact (congrArg _ (col_bits t)).trans (bits_eq _)

/-- For each lane, its frequency. -/
def lanes : FVec Ideal S128 .f32 := Host.gather gather_S32_S128x1_S128_n_0_n_n_0_1_1 freqs number

/-- The frequency of a lane. -/
theorem lanes_at (l : Fin 128) : lanes (ix1 l) = Rope.freq ⟨l.val % 32, by omega⟩ :=
  (congrArg freqs (number_idx l)).trans (freqs_at _)

/-- The angles. -/
def angles : FVec Ideal S2048x128 .f32 :=
  mulf coords (broadcastInDim S2048x128 ![0, 1] bcast_S1x128_S2048x128_0_1 (broadcastInDim S1x128 ![1] bcast_S128_S1x128_1 lanes))

/-- The angle of a position and a lane. -/
theorem angles_at (t : Fin 2048) (l : Fin 128) : angles (ix2 t l) = Rope.angle t l := by
  pointwise [angles, coords_at, lanes_at]
  rfl

/-- The table that goes with the lanes shifted up: minus the sines on the pairs' left sides. -/
def ups : FVec Ideal S2048x128 .f32 :=
  select (broadcastInDim S2048x128 ![0, 1] bcast_S1x128_S2048x128_0_1 (broadcastInDim S1x128 ![1] bcast_S128_S1x128_1 fun i => lit3 (S128.rowMajor i))) (Host.negf (Host.sin angles)) (broadcastInDim S2048x128 ![] bcast_S_S2048x128 (constant S_ .f32 0x00000000#32))

/-- The table that goes with the lanes shifted down: the sines on the pairs' right sides. -/
def downs : FVec Ideal S2048x128 .f32 :=
  select (broadcastInDim S2048x128 ![0, 1] bcast_S1x128_S2048x128_0_1 (broadcastInDim S1x128 ![1] bcast_S128_S1x128_1 fun i => lit3 (S128.rowMajor i))) (broadcastInDim S2048x128 ![] bcast_S_S2048x128 (constant S_ .f32 0x00000000#32)) (Host.sin angles)

/-- The table for the copy rotated up: minus the sine in the first half of each pair of quarters, zero in the other. -/
theorem ups_at (t : Fin 2048) (l : Fin 128) : ups (ix2 t l) = if l.val % 64 < 32 then -Ideal.sin (Rope.angle t l) else 0 := by
  pointwise [ups, angles_at]
  rw [side_at]
  by_cases h : l.val % 64 < 32
  · rw [if_pos h, if_pos h]
    rfl
  · rw [if_neg h, if_neg h]
    rfl

/-- The table for the copy rotated down: the sine in the second half of each pair of quarters, zero in the other. -/
theorem downs_at (t : Fin 2048) (l : Fin 128) : downs (ix2 t l) = if l.val % 64 < 32 then 0 else Ideal.sin (Rope.angle t l) := by
  pointwise [downs, angles_at]
  rw [side_at]
  by_cases h : l.val % 64 < 32
  · rw [if_pos h, if_pos h]
    rfl
  · rw [if_neg h, if_neg h]
    rfl

/-- The call's fifth operand holds the cosines, -/
theorem cos_read : V m c main_v27 = Host.cos angles := by
  simp only [V, hostOps0, hostOps0_1, hostOps0_2, hostOps0_3, hostOps0_4, List.flatten_cons, List.flatten_nil, List.append_nil, List.cons_append, List.nil_append]
  entry_read
  rfl

/-- its sixth the table for the lanes shifted up, -/
theorem up_read : V m c main_v31 = ups := by
  simp only [V, hostOps0, hostOps0_1, hostOps0_2, hostOps0_3, hostOps0_4, List.flatten_cons, List.flatten_nil, List.append_nil, List.cons_append, List.nil_append]
  entry_read
  rfl

/-- its seventh the table for the lanes shifted down, -/
theorem down_read : V m c main_v32 = downs := by
  simp only [V, hostOps0, hostOps0_1, hostOps0_2, hostOps0_3, hostOps0_4, List.flatten_cons, List.flatten_nil, List.append_nil, List.cons_append, List.nil_append]
  entry_read
  rfl

/-- its second the weights, -/
theorem weights_read : V m c main_v1 = (truncf (F := Ideal) (φ := .f32) .bf16 (shapeCast S2048x9728 (m ((c.tc : Thread nD τ).loc main_arg1) : FVec Ideal S1x2048x9728 .f32) shapeCasts_S1x2048x9728_S2048x9728) bitsLt_bf16_f32 : FVec Ideal S2048x9728 .bf16) := by
  simp only [V, hostOps0, hostOps0_1, hostOps0_2, hostOps0_3, hostOps0_4, List.flatten_cons, List.flatten_nil, List.append_nil, List.cons_append, List.nil_append]
  entry_read
  rfl

/-- its first the layer's input, -/
theorem input_read : V m c main_arg0 = m ((c.tc : Thread nD τ).loc main_arg0) := by
  simp only [V, hostOps0, hostOps0_1, hostOps0_2, hostOps0_3, hostOps0_4, List.flatten_cons, List.flatten_nil, List.append_nil, List.cons_append, List.nil_append]
  entry_read
  rfl

/-- its third the queries' gain -/
theorem qgain_read : V m c main_v33 = shapeCast S1x128 (shapeCast S128 (m ((c.tc : Thread nD τ).loc main_arg2) : FVec Ideal S1x128 .f32) shapeCasts_S1x128_S128) shapeCasts_S128_S1x128 := by
  simp only [V, hostOps0, hostOps0_1, hostOps0_2, hostOps0_3, hostOps0_4, List.flatten_cons, List.flatten_nil, List.append_nil, List.cons_append, List.nil_append]
  entry_read
  rfl

/-- and its fourth the keys'. -/
theorem kgain_read : V m c main_v34 = shapeCast S1x128 (shapeCast S128 (m ((c.tc : Thread nD τ).loc main_arg3) : FVec Ideal S1x128 .f32) shapeCasts_S1x128_S128) shapeCasts_S128_S1x128 := by
  simp only [V, hostOps0, hostOps0_1, hostOps0_2, hostOps0_3, hostOps0_4, List.flatten_cons, List.flatten_nil, List.append_nil, List.cons_append, List.nil_append]
  entry_read
  rfl

end Cert.InprojTables
end
-- ==== Proof.InprojReference.lean ====
module

public import proofs.«01_k».proof.Proof.Gen.InprojRefIdeal.Run
public import proofs.«01_k».proof.Proof.Rope

/-! What the input projection's reference computes, index by index. -/

@[expose] public section

set_option maxRecDepth 16384
noncomputable section
open Idealize.ShloMosaic Idealize.ShloMosaic.TcCoe Idealize.SL.Sem

namespace Cert.InprojReference
open Cert.InprojRefIdeal Cert.InprojRefIdeal.Gen

/-- The projection. -/
def proj (X : FVec Ideal S16384x2048 .f32) (W : FVec Ideal S1x2048x9728 .f32) : FVec Ideal S16384x3584 .f32 :=
  Host.dotGeneral dot_S16384x2048_S2048x3584_S16384x3584_1_0_0_1_n_n none X (extractStridedSlice S2048x3584 ![0, 0] (shapeCast _ W shapeCasts_S1x2048x9728_S2048x9728) slices_S2048x9728_S2048x3584_0_0)

/-- An entry of the projection is a row of the input against a column of the weights. -/
theorem proj_at (X : FVec Ideal S16384x2048 .f32) (W : FVec Ideal S1x2048x9728 .f32) (r : Fin 16384) (c : Fin 3584) :
    proj X W (ix2 r c) = ∑ e : Fin 2048, X (ix2 r e) * W (ix3 0 e ⟨c, by omega⟩) := by
  pointwise [proj]

/-- The sequence positions. -/
def pos : IVec S2048 32 := iotaInDim S2048 32 0
/-- The grid's width. -/
def width : IVec S_ 32 := id (constantI S_ 32 64#32)
/-- The quotients of the positions by the width, rounded towards zero. -/
def quot : IVec S2048 32 := Host.divsi pos (broadcastInDim S2048 ![] bcast_S_S2048 width)
/-- The width, or one for zero. -/
def width' : IVec S_ 32 := select (cmpi .eq width (constantI S_ 32 0#32)) (constantI S_ 32 1#32) width
/-- The remainders of the positions, with the position's sign. -/
def rem : IVec S2048 32 := Host.remsi pos (broadcastInDim S2048 ![] bcast_S_S2048 width')
/-- The grid's rows. -/
def rows : IVec S2048 32 :=
  select (andi (cmpi .ne (signi pos) (broadcastInDim S2048 ![] bcast_S_S2048 (signi width))) (cmpi .ne (Host.remsi pos (broadcastInDim S2048 ![] bcast_S_S2048 width)) (broadcastInDim S2048 ![] bcast_S_S2048 (constantI S_ 32 0#32)))) (subi quot (broadcastInDim S2048 ![] bcast_S_S2048 (constantI S_ 32 1#32))) quot
/-- The grid's columns. -/
def cols : IVec S2048 32 :=
  select (andi (cmpi .ne (cmpi .slt rem (broadcastInDim S2048 ![] bcast_S_S2048 (constantI S_ 32 0#32))) (broadcastInDim S2048 ![] bcast_S_S2048 (cmpi .slt width' (constantI S_ 32 0#32)))) (cmpi .ne rem (broadcastInDim S2048 ![] bcast_S_S2048 (constantI S_ 32 0#32)))) (addi rem (broadcastInDim S2048 ![] bcast_S_S2048 width')) rem

/-- Position `t` lies in row `t / 64` of the grid. -/
theorem rows_at (t : Fin 2048) : rows (ix1 t) = BitVec.ofNat 32 (t / 64) :=
  (by decide +kernel : ∀ t : Fin 2048, rows (ix1 t) = BitVec.ofNat 32 (t / 64)) t

/-- Position `t` lies in column `t % 64` of the grid. -/
theorem cols_at (t : Fin 2048) : cols (ix1 t) = BitVec.ofNat 32 (t % 64) :=
  (by decide +kernel : ∀ t : Fin 2048, cols (ix1 t) = BitVec.ofNat 32 (t % 64)) t

/-- The frequencies. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The reference's table of frequencies. -/
theorem freqs_at (j : Fin 32) : freqs (ix1 j) = Rope.freq j := by
  pointwise [freqs]
  rfl

/-- The angles of an array of positions against every frequency. -/
def angles (p : IVec S2048 32) : FVec Ideal S2048x32 .f32 :=
  mulf (broadcastInDim S2048x32 ![0, 1] bcast_S2048x1_S2048x32_0_1 (broadcastInDim S2048x1 ![0] bcast_S2048_S2048x1_0 (sitofp .f32 p))) (broadcastInDim S2048x32 ![0, 1] bcast_S1x32_S2048x32_0_1 (broadcastInDim S1x32 ![1] bcast_S32_S1x32_1 freqs))

/-- An angle: a position times a frequency. -/
theorem angles_at (p : IVec S2048 32) (t : Fin 2048) (j : Fin 32) :
    angles p (ix2 t j) = FloatOps.sitofp (F := Ideal) .f32 (p (ix1 t)) * Rope.freq j := by
  pointwise [angles, freqs_at]

/-- The query heads' rows divided by their root mean squares, times the gain. -/
def normed8 (Z : FVec Ideal S8x2048x8x128 .f32) (g : FVec Ideal S1x128 .f32) : FVec Ideal S8x2048x8x128 .f32 :=
  mulf (mulf Z (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf Z Z) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast _ g shapeCasts_S1x128_S128)))

/-- An entry of a normalised query head: the entry over the root mean square of its head, times the gain. -/
theorem normed8_at (Z : FVec Ideal S8x2048x8x128 .f32) (g : FVec Ideal S1x128 .f32) (b : Fin 8) (t : Fin 2048) (h : Fin 8) (d : Fin 128) :
    normed8 Z g (ix4 b t h d) = Rope.normed (fun e => Z (ix4 b t h e)) (fun e => g (ix2 0 e)) d := by
  pointwise [normed8]
  rfl

/-- Half of the query heads' lanes turned by a table of cosines and a table of sines. -/
def turned8 (u v : FVec Ideal S8x2048x8x32 .f32) (c s : FVec Ideal S2048x32 .f32) : FVec Ideal S8x2048x8x64 .f32 :=
  concatenate S8x2048x8x64 3 [⟨S8x2048x8x32, (subf (mulf u (broadcastInDim S8x2048x8x32 ![0, 1, 2, 3] bcast_S1x2048x1x32_S8x2048x8x32_0_1_2_3 (broadcastInDim S1x2048x1x32 ![1, 3] bcast_S2048x32_S1x2048x1x32_1_3 c))) (mulf v (broadcastInDim S8x2048x8x32 ![0, 1, 2, 3] bcast_S1x2048x1x32_S8x2048x8x32_0_1_2_3 (broadcastInDim S1x2048x1x32 ![1, 3] bcast_S2048x32_S1x2048x1x32_1_3 s))))⟩, ⟨S8x2048x8x32, (addf (mulf v (broadcastInDim S8x2048x8x32 ![0, 1, 2, 3] bcast_S1x2048x1x32_S8x2048x8x32_0_1_2_3 (broadcastInDim S1x2048x1x32 ![1, 3] bcast_S2048x32_S1x2048x1x32_1_3 c))) (mulf u (broadcastInDim S8x2048x8x32 ![0, 1, 2, 3] bcast_S1x2048x1x32_S8x2048x8x32_0_1_2_3 (broadcastInDim S1x2048x1x32 ![1, 3] bcast_S2048x32_S1x2048x1x32_1_3 s))))⟩] concatenates_S8x2048x8x32_S8x2048x8x32_S8x2048x8x64_d3

/-- The first 32 of the turned lanes. -/
theorem turned8_low (u v : FVec Ideal S8x2048x8x32 .f32) (c s : FVec Ideal S2048x32 .f32) (b : Fin 8) (t : Fin 2048) (h : Fin 8) (d : Fin 64) (j : Fin 32)
    (hj : (d : ℕ) = j) : turned8 u v c s (ix4 b t h d) = u (ix4 b t h j) * c (ix2 t j) - v (ix4 b t h j) * s (ix2 t j) := by
  have hlt : j.val < 64 := by omega
  obtain rfl : d = ⟨j.val, hlt⟩ := Fin.ext hj
  pointwise [turned8]

/-- The last 32 of the turned lanes. -/
theorem turned8_high (u v : FVec Ideal S8x2048x8x32 .f32) (c s : FVec Ideal S2048x32 .f32) (b : Fin 8) (t : Fin 2048) (h : Fin 8) (d : Fin 64) (j : Fin 32)
    (hj : (d : ℕ) = 32 + j) : turned8 u v c s (ix4 b t h d) = v (ix4 b t h j) * c (ix2 t j) + u (ix4 b t h j) * s (ix2 t j) := by
  have hlt : 32 + j.val < 64 := by omega
  obtain rfl : d = ⟨32 + j.val, hlt⟩ := Fin.ext hj
  pointwise [turned8]

/-- The query heads' rows turned, the first half of the lanes by the grid's rows, the second by its columns. -/
def roped8 (Z : FVec Ideal S8x2048x8x128 .f32) : FVec Ideal S8x2048x8x128 .f32 :=
  concatenate S8x2048x8x128 3 [⟨S8x2048x8x64, turned8 (extractStridedSlice S8x2048x8x32 ![0, 0, 0, 0] (extractStridedSlice S8x2048x8x64 ![0, 0, 0, 0] Z slices_S8x2048x8x128_S8x2048x8x64_0_0_0_0) slices_S8x2048x8x64_S8x2048x8x32_0_0_0_0) (extractStridedSlice S8x2048x8x32 ![0, 0, 0, 32] (extractStridedSlice S8x2048x8x64 ![0, 0, 0, 0] Z slices_S8x2048x8x128_S8x2048x8x64_0_0_0_0) slices_S8x2048x8x64_S8x2048x8x32_0_0_0_32) (Host.cos (angles rows)) (Host.sin (angles rows))⟩, ⟨S8x2048x8x64, turned8 (extractStridedSlice S8x2048x8x32 ![0, 0, 0, 0] (extractStridedSlice S8x2048x8x64 ![0, 0, 0, 64] Z slices_S8x2048x8x128_S8x2048x8x64_0_0_0_64) slices_S8x2048x8x64_S8x2048x8x32_0_0_0_0) (extractStridedSlice S8x2048x8x32 ![0, 0, 0, 32] (extractStridedSlice S8x2048x8x64 ![0, 0, 0, 64] Z slices_S8x2048x8x128_S8x2048x8x64_0_0_0_64) slices_S8x2048x8x64_S8x2048x8x32_0_0_0_32) (Host.cos (angles cols)) (Host.sin (angles cols))⟩] concatenates_S8x2048x8x64_S8x2048x8x64_S8x2048x8x128_d3

/-- An entry of a turned query head. -/
theorem roped8_at (Z : FVec Ideal S8x2048x8x128 .f32) (b : Fin 8) (t : Fin 2048) (h : Fin 8) (d : Fin 128) :
    roped8 Z (ix4 b t h d) = Rope.turned t (fun e => Z (ix4 b t h e)) d := by
  have hd : d.val < 128 := d.isLt
  unfold Rope.turned Rope.angle Rope.whole
  by_cases h1 : d.val < 64 <;> by_cases h2 : d.val % 64 < 32
  · rw [if_pos h2, if_pos h1]
    pointwise [roped8]
    rw [dif_pos h1, turned8_low _ _ _ _ b t h _ ⟨d.val % 32, by omega⟩ (by simp only; omega)]
    pointwise [angles_at, rows_at]
    rw [show (⟨d.val % 32, by omega⟩ : Fin 128) = d from Fin.ext (by simp only; omega),
      show (⟨32 + d.val % 32, by omega⟩ : Fin 128) = ⟨(d.val + 32) % 128, by omega⟩ from
        Fin.ext (by simp only; omega)]
  · rw [if_neg h2, if_pos h1]
    pointwise [roped8]
    rw [dif_pos h1, turned8_high _ _ _ _ b t h _ ⟨d.val % 32, by omega⟩ (by simp only; omega)]
    pointwise [angles_at, rows_at]
    rw [show (⟨d.val % 32, by omega⟩ : Fin 128) = ⟨(d.val + 96) % 128, by omega⟩ from Fin.ext (by simp only; omega),
      show (⟨32 + d.val % 32, by omega⟩ : Fin 128) = d from
        Fin.ext (by simp only; omega)]
  · rw [if_pos h2, if_neg h1]
    pointwise [roped8]
    rw [dif_neg h1, turned8_low _ _ _ _ b t h _ ⟨d.val % 32, by omega⟩ (by simp only; omega)]
    pointwise [angles_at, cols_at]
    rw [show (⟨64 + d.val % 32, by omega⟩ : Fin 128) = d from Fin.ext (by simp only; omega),
      show (⟨64 + (32 + d.val % 32), by omega⟩ : Fin 128) = ⟨(d.val + 32) % 128, by omega⟩ from
        Fin.ext (by simp only; omega)]
  · rw [if_neg h2, if_neg h1]
    pointwise [roped8]
    rw [dif_neg h1, turned8_high _ _ _ _ b t h _ ⟨d.val % 32, by omega⟩ (by simp only; omega)]
    pointwise [angles_at, cols_at]
    rw [show (⟨64 + d.val % 32, by omega⟩ : Fin 128) = ⟨(d.val + 96) % 128, by omega⟩ from Fin.ext (by simp only; omega),
      show (⟨64 + (32 + d.val % 32), by omega⟩ : Fin 128) = d from
        Fin.ext (by simp only; omega)]

/-- The key heads' rows divided by their root mean squares, times the gain. -/
def normed2 (Z : FVec Ideal S8x2048x2x128 .f32) (g : FVec Ideal S1x128 .f32) : FVec Ideal S8x2048x2x128 .f32 :=
  mulf (mulf Z (broadcastInDim S8x2048x2x128 ![0, 1, 2, 3] bcast_S8x2048x2x1_S8x2048x2x128_0_1_2_3 (Host.rsqrt (addf (Host.divf (broadcastInDim S8x2048x2x1 ![0, 1, 2] bcast_S8x2048x2_S8x2048x2x1_0_1_2 (Host.reduceAdd (mulf Z Z) (constant S_ .f32 0x00000000#32) reducesTo_S8x2048x2x128_S8x2048x2_d3 h_S_)) (broadcastInDim S8x2048x2x1 ![] bcast_S_S8x2048x2x1 (constant S_ .f32 0x43000000#32))) (broadcastInDim S8x2048x2x1 ![] bcast_S_S8x2048x2x1 (constant S_ .f32 0x358637BD#32)))))) (broadcastInDim S8x2048x2x128 ![0, 1, 2, 3] bcast_S1x1x1x128_S8x2048x2x128_0_1_2_3 (broadcastInDim S1x1x1x128 ![3] bcast_S128_S1x1x1x128_3 (shapeCast _ g shapeCasts_S1x128_S128)))

/-- An entry of a normalised key head: the entry over the root mean square of its head, times the gain. -/
theorem normed2_at (Z : FVec Ideal S8x2048x2x128 .f32) (g : FVec Ideal S1x128 .f32) (b : Fin 8) (t : Fin 2048) (h : Fin 2) (d : Fin 128) :
    normed2 Z g (ix4 b t h d) = Rope.normed (fun e => Z (ix4 b t h e)) (fun e => g (ix2 0 e)) d := by
  pointwise [normed2]
  rfl

/-- Half of the key heads' lanes turned by a table of cosines and a table of sines. -/
def turned2 (u v : FVec Ideal S8x2048x2x32 .f32) (c s : FVec Ideal S2048x32 .f32) : FVec Ideal S8x2048x2x64 .f32 :=
  concatenate S8x2048x2x64 3 [⟨S8x2048x2x32, (subf (mulf u (broadcastInDim S8x2048x2x32 ![0, 1, 2, 3] bcast_S1x2048x1x32_S8x2048x2x32_0_1_2_3 (broadcastInDim S1x2048x1x32 ![1, 3] bcast_S2048x32_S1x2048x1x32_1_3 c))) (mulf v (broadcastInDim S8x2048x2x32 ![0, 1, 2, 3] bcast_S1x2048x1x32_S8x2048x2x32_0_1_2_3 (broadcastInDim S1x2048x1x32 ![1, 3] bcast_S2048x32_S1x2048x1x32_1_3 s))))⟩, ⟨S8x2048x2x32, (addf (mulf v (broadcastInDim S8x2048x2x32 ![0, 1, 2, 3] bcast_S1x2048x1x32_S8x2048x2x32_0_1_2_3 (broadcastInDim S1x2048x1x32 ![1, 3] bcast_S2048x32_S1x2048x1x32_1_3 c))) (mulf u (broadcastInDim S8x2048x2x32 ![0, 1, 2, 3] bcast_S1x2048x1x32_S8x2048x2x32_0_1_2_3 (broadcastInDim S1x2048x1x32 ![1, 3] bcast_S2048x32_S1x2048x1x32_1_3 s))))⟩] concatenates_S8x2048x2x32_S8x2048x2x32_S8x2048x2x64_d3

/-- The first 32 of the turned lanes. -/
theorem turned2_low (u v : FVec Ideal S8x2048x2x32 .f32) (c s : FVec Ideal S2048x32 .f32) (b : Fin 8) (t : Fin 2048) (h : Fin 2) (d : Fin 64) (j : Fin 32)
    (hj : (d : ℕ) = j) : turned2 u v c s (ix4 b t h d) = u (ix4 b t h j) * c (ix2 t j) - v (ix4 b t h j) * s (ix2 t j) := by
  have hlt : j.val < 64 := by omega
  obtain rfl : d = ⟨j.val, hlt⟩ := Fin.ext hj
  pointwise [turned2]

/-- The last 32 of the turned lanes. -/
theorem turned2_high (u v : FVec Ideal S8x2048x2x32 .f32) (c s : FVec Ideal S2048x32 .f32) (b : Fin 8) (t : Fin 2048) (h : Fin 2) (d : Fin 64) (j : Fin 32)
    (hj : (d : ℕ) = 32 + j) : turned2 u v c s (ix4 b t h d) = v (ix4 b t h j) * c (ix2 t j) + u (ix4 b t h j) * s (ix2 t j) := by
  have hlt : 32 + j.val < 64 := by omega
  obtain rfl : d = ⟨32 + j.val, hlt⟩ := Fin.ext hj
  pointwise [turned2]

/-- The key heads' rows turned, the first half of the lanes by the grid's rows, the second by its columns. -/
def roped2 (Z : FVec Ideal S8x2048x2x128 .f32) : FVec Ideal S8x2048x2x128 .f32 :=
  concatenate S8x2048x2x128 3 [⟨S8x2048x2x64, turned2 (extractStridedSlice S8x2048x2x32 ![0, 0, 0, 0] (extractStridedSlice S8x2048x2x64 ![0, 0, 0, 0] Z slices_S8x2048x2x128_S8x2048x2x64_0_0_0_0) slices_S8x2048x2x64_S8x2048x2x32_0_0_0_0) (extractStridedSlice S8x2048x2x32 ![0, 0, 0, 32] (extractStridedSlice S8x2048x2x64 ![0, 0, 0, 0] Z slices_S8x2048x2x128_S8x2048x2x64_0_0_0_0) slices_S8x2048x2x64_S8x2048x2x32_0_0_0_32) (Host.cos (angles rows)) (Host.sin (angles rows))⟩, ⟨S8x2048x2x64, turned2 (extractStridedSlice S8x2048x2x32 ![0, 0, 0, 0] (extractStridedSlice S8x2048x2x64 ![0, 0, 0, 64] Z slices_S8x2048x2x128_S8x2048x2x64_0_0_0_64) slices_S8x2048x2x64_S8x2048x2x32_0_0_0_0) (extractStridedSlice S8x2048x2x32 ![0, 0, 0, 32] (extractStridedSlice S8x2048x2x64 ![0, 0, 0, 64] Z slices_S8x2048x2x128_S8x2048x2x64_0_0_0_64) slices_S8x2048x2x64_S8x2048x2x32_0_0_0_32) (Host.cos (angles cols)) (Host.sin (angles cols))⟩] concatenates_S8x2048x2x64_S8x2048x2x64_S8x2048x2x128_d3

/-- An entry of a turned key head. -/
theorem roped2_at (Z : FVec Ideal S8x2048x2x128 .f32) (b : Fin 8) (t : Fin 2048) (h : Fin 2) (d : Fin 128) :
    roped2 Z (ix4 b t h d) = Rope.turned t (fun e => Z (ix4 b t h e)) d := by
  have hd : d.val < 128 := d.isLt
  unfold Rope.turned Rope.angle Rope.whole
  by_cases h1 : d.val < 64 <;> by_cases h2 : d.val % 64 < 32
  · rw [if_pos h2, if_pos h1]
    pointwise [roped2]
    rw [dif_pos h1, turned2_low _ _ _ _ b t h _ ⟨d.val % 32, by omega⟩ (by simp only; omega)]
    pointwise [angles_at, rows_at]
    rw [show (⟨d.val % 32, by omega⟩ : Fin 128) = d from Fin.ext (by simp only; omega),
      show (⟨32 + d.val % 32, by omega⟩ : Fin 128) = ⟨(d.val + 32) % 128, by omega⟩ from
        Fin.ext (by simp only; omega)]
  · rw [if_neg h2, if_pos h1]
    pointwise [roped2]
    rw [dif_pos h1, turned2_high _ _ _ _ b t h _ ⟨d.val % 32, by omega⟩ (by simp only; omega)]
    pointwise [angles_at, rows_at]
    rw [show (⟨d.val % 32, by omega⟩ : Fin 128) = ⟨(d.val + 96) % 128, by omega⟩ from Fin.ext (by simp only; omega),
      show (⟨32 + d.val % 32, by omega⟩ : Fin 128) = d from
        Fin.ext (by simp only; omega)]
  · rw [if_pos h2, if_neg h1]
    pointwise [roped2]
    rw [dif_neg h1, turned2_low _ _ _ _ b t h _ ⟨d.val % 32, by omega⟩ (by simp only; omega)]
    pointwise [angles_at, cols_at]
    rw [show (⟨64 + d.val % 32, by omega⟩ : Fin 128) = d from Fin.ext (by simp only; omega),
      show (⟨64 + (32 + d.val % 32), by omega⟩ : Fin 128) = ⟨(d.val + 32) % 128, by omega⟩ from
        Fin.ext (by simp only; omega)]
  · rw [if_neg h2, if_neg h1]
    pointwise [roped2]
    rw [dif_neg h1, turned2_high _ _ _ _ b t h _ ⟨d.val % 32, by omega⟩ (by simp only; omega)]
    pointwise [angles_at, cols_at]
    rw [show (⟨64 + d.val % 32, by omega⟩ : Fin 128) = ⟨(d.val + 96) % 128, by omega⟩ from Fin.ext (by simp only; omega),
      show (⟨64 + (32 + d.val % 32), by omega⟩ : Fin 128) = d from
        Fin.ext (by simp only; omega)]

/-- The query heads normalised, turned and scaled. -/
def queries (P : FVec Ideal S16384x3584 .f32) (g : FVec Ideal S1x128 .f32) : FVec Ideal S16384x1024 .f32 :=
  shapeCast _ (mulf (roped8 (normed8 (shapeCast _ (extractStridedSlice S16384x1024 ![0, 0] P slices_S16384x3584_S16384x1024_0_0) shapeCasts_S16384x1024_S8x2048x8x128) g)) (broadcastInDim S8x2048x8x128 ![] bcast_S_S8x2048x8x128 (constant S_ .f32 0x3DB504F3#32))) shapeCasts_S8x2048x8x128_S16384x1024

/-- An entry of the queries: its head normalised, turned and scaled. -/
theorem queries_at (P : FVec Ideal S16384x3584 .f32) (g : FVec Ideal S1x128 .f32) (b : Fin 8) (t : Fin 2048) (h : Fin 8) (d : Fin 128)
    (r : Fin 16384) (c : Fin 1024) (hr : r.val = b.val * 2048 + t.val) (hc : c.val = h.val * 128 + d.val) :
    queries P g (ix2 r c) = Rope.turned t (Rope.normed (fun e => P (ix2 r ⟨h.val * 128 + e.val, by omega⟩)) (fun e => g (ix2 0 e))) d * Rope.factor := by
  have hlt : b.val * 2048 + t.val < 16384 := by omega
  have hlc : h.val * 128 + d.val < 1024 := by omega
  obtain rfl : r = ⟨b.val * 2048 + t.val, hlt⟩ := Fin.ext hr
  obtain rfl : c = ⟨h.val * 128 + d.val, hlc⟩ := Fin.ext hc
  pointwise [queries, roped8_at, normed8_at]
  rfl

/-- The key heads normalised and turned. -/
def keys (P : FVec Ideal S16384x3584 .f32) (g : FVec Ideal S1x128 .f32) : FVec Ideal S16384x256 .f32 :=
  shapeCast _ (roped2 (normed2 (shapeCast _ (extractStridedSlice S16384x256 ![0, 1024] P slices_S16384x3584_S16384x256_0_1024) shapeCasts_S16384x256_S8x2048x2x128) g)) shapeCasts_S8x2048x2x128_S16384x256

/-- An entry of the keys: its head normalised and turned. -/
theorem keys_at (P : FVec Ideal S16384x3584 .f32) (g : FVec Ideal S1x128 .f32) (b : Fin 8) (t : Fin 2048) (h : Fin 2) (d : Fin 128)
    (r : Fin 16384) (c : Fin 256) (hr : r.val = b.val * 2048 + t.val) (hc : c.val = h.val * 128 + d.val) :
    keys P g (ix2 r c) = Rope.turned t (Rope.normed (fun e => P (ix2 r ⟨1024 + (h.val * 128 + e.val), by omega⟩)) (fun e => g (ix2 0 e))) d := by
  have hlt : b.val * 2048 + t.val < 16384 := by omega
  have hlc : h.val * 128 + d.val < 256 := by omega
  obtain rfl : r = ⟨b.val * 2048 + t.val, hlt⟩ := Fin.ext hr
  obtain rfl : c = ⟨h.val * 128 + d.val, hlc⟩ := Fin.ext hc
  pointwise [keys, roped2_at, normed2_at]

/-- The columns of the result side by side. -/
def columns (P : FVec Ideal S16384x3584 .f32) (gq gk : FVec Ideal S1x128 .f32) : FVec Ideal S16384x3584 .f32 :=
  concatenate S16384x3584 1 [⟨S16384x1024, queries P gq⟩, ⟨S16384x256, keys P gk⟩, ⟨S16384x256, extractStridedSlice S16384x256 ![0, 1280] P slices_S16384x3584_S16384x256_0_1280⟩, ⟨S16384x512, mulf (extractStridedSlice S16384x512 ![0, 1536] P slices_S16384x3584_S16384x512_0_1536) (broadcastInDim S16384x512 ![] bcast_S_S16384x512 (constant S_ .f32 0x3DB504F3#32))⟩, ⟨S16384x1024, extractStridedSlice S16384x1024 ![0, 2048] P slices_S16384x3584_S16384x1024_0_2048⟩, ⟨S16384x512, mulf (extractStridedSlice S16384x512 ![0, 3072] P slices_S16384x3584_S16384x512_0_3072) (broadcastInDim S16384x512 ![] bcast_S_S16384x512 (constant S_ .f32 0x3DB504F3#32))⟩] concatenates_S16384x1024_S16384x256_S16384x256_S16384x512_S16384x1024_S16384x512_S16384x3584_d1

/-- A column of the result is the projected row's, by the ranges of the columns. -/
theorem columns_at (P : FVec Ideal S16384x3584 .f32) (gq gk : FVec Ideal S1x128 .f32) (r : Fin 16384) (c : Fin 3584) :
    columns P gq gk (ix2 r c) = Rope.row (fun e => P (ix2 r e)) (fun e => gq (ix2 0 e)) (fun e => gk (ix2 0 e)) (r.val % 2048) c := by
  have hr : r.val < 16384 := r.isLt
  have hc : c.val < 3584 := c.isLt
  pointwise [columns]
  split
  · rw [queries_at P gq ⟨r / 2048, by omega⟩ ⟨r % 2048, by omega⟩ ⟨c / 128, by omega⟩ ⟨c % 128, by omega⟩ _ _ (by simp only; omega) (by simp only; omega),
      Rope.row_query _ _ _ _ _ ⟨c / 128, by omega⟩ ⟨c % 128, by omega⟩ (by simp only; omega)]
  split
  · rw [keys_at P gk ⟨r / 2048, by omega⟩ ⟨r % 2048, by omega⟩ ⟨(c - 1024) / 128, by omega⟩ ⟨c % 128, by omega⟩ _ _ (by simp only; omega) (by simp only; omega),
      Rope.row_key _ _ _ _ _ ⟨(c - 1024) / 128, by omega⟩ ⟨c % 128, by omega⟩ (by simp only; omega)]
  split
  · rw [Rope.row_plain _ _ _ _ _ (by omega)]
    exact congrArg (fun k => P (ix2 r k)) (Fin.ext (by simp only; omega))
  split
  · rw [Rope.row_scaled _ _ _ _ _ (by omega)]
    exact congrArg (fun k => P (ix2 r k) * Rope.factor) (Fin.ext (by simp only; omega))
  split
  · rw [Rope.row_plain _ _ _ _ _ (by omega)]
    exact congrArg (fun k => P (ix2 r k)) (Fin.ext (by simp only; omega))
  · rw [Rope.row_scaled _ _ _ _ _ (by omega)]
    exact congrArg (fun k => P (ix2 r k) * Rope.factor) (Fin.ext (by simp only; omega))

/-- The reference's result. -/
def result (X : FVec Ideal S16384x2048 .f32) (W : FVec Ideal S1x2048x9728 .f32) (gq gk : FVec Ideal S1x128 .f32) : FVec Ideal S16384x3584 .bf16 :=
  truncf .bf16 (columns (proj X W) gq gk) bitsLt_bf16_f32

/-- An entry of the reference's result is `Rope.row` of its row's projection. -/
theorem result_at (X : FVec Ideal S16384x2048 .f32) (W : FVec Ideal S1x2048x9728 .f32) (gq gk : FVec Ideal S1x128 .f32) (r : Fin 16384) (c : Fin 3584) :
    result X W gq gk (ix2 r c) = Rope.row (fun n => ∑ e : Fin 2048, X (ix2 r e) * W (ix3 0 e ⟨n, by omega⟩)) (fun e => gq (ix2 0 e)) (fun e => gk (ix2 0 e)) (r.val % 2048) c := by
  unfold result
  refine (columns_at (proj X W) gq gk r c).trans ?_
  simp only [proj_at]

set_option maxHeartbeats 4000000 in
/-- The reference's run leaves `result` of its arguments. -/
theorem run_result (V0 : Valuation τ sig (Elt Ideal)) :
    (truncf .bf16 (Value.res_main_v142 V0) bitsLt_bf16_f32 : FVec Ideal S16384x3584 .bf16) = result (V0 (Proc.devRef .tc main_arg0)) (V0 (Proc.devRef .tc main_arg1)) (V0 (Proc.devRef .tc main_arg2)) (V0 (Proc.devRef .tc main_arg3)) := rfl

end Cert.InprojReference
end
-- ==== Proof.InprojValue.lean ====
module

public import proofs.«01_k».proof.Proof.InprojBlock
public import proofs.«01_k».proof.Proof.InprojTables
public import proofs.«01_k».proof.Proof.InprojReference

/-! The input projection's result array is the reference's: the blocks it reads, the array. -/

@[expose] public section

set_option maxRecDepth 16384
noncomputable section
open Idealize.ShloMosaic Idealize.ShloMosaic.TcCoe Idealize.ShloMosaic.Tactic Idealize.SL.Sem
open Idealize.ShloMosaic.Pipeline (Dat)

namespace Cert.InprojValue
open Cert.InprojIdeal Cert.InprojIdeal.Gen

variable (m : (ℓ : Loc nD τ sig) → Buf (Elt Ideal) ℓ) (c : Dev nD)

/-- The blocks a grid point takes: its block of rows of the input and of the result, the tables' block at its rows' sequence positions. -/
theorem idx : ∀ t : Fin cfg0.N, win0_0.index t = ![t.val, 0] ∧ win0_1.index t = ![0, 0] ∧ win0_2.index t = ![0, 0] ∧ win0_3.index t = ![0, 0]
    ∧ win0_4.index t = ![t.val % 4, 0] ∧ win0_5.index t = ![t.val % 4, 0] ∧ win0_6.index t = ![t.val % 4, 0] ∧ win0_7.index t = ![t.val, 0] :=
  (by decide +kernel : ∀ t : Fin grid0.N, _)

/-- The layer's input. -/
abbrev X : FVec Ideal S16384x2048 .f32 := m ((c.tc : Thread nD τ).loc main_arg0)
/-- The input projection's weights. -/
abbrev W : FVec Ideal S1x2048x9728 .f32 := m ((c.tc : Thread nD τ).loc main_arg1)
/-- The queries' gain. -/
abbrev GQ : FVec Ideal S1x128 .f32 := m ((c.tc : Thread nD τ).loc main_arg2)
/-- The keys' gain. -/
abbrev GK : FVec Ideal S1x128 .f32 := m ((c.tc : Thread nD τ).loc main_arg3)

/-- A grid point's block of the input. -/
abbrev xb (t : Fin cfg0.N) : Vec Ideal S512x2048 .f32 := iblk m c 0 t
/-- The weights as a grid point reads them. -/
abbrev wb (t : Fin cfg0.N) : Vec Ideal S2048x3584 .bf16 := X0_1 m c t
/-- The queries' gain as a grid point reads it. -/
abbrev qb (t : Fin cfg0.N) : Vec Ideal S1x128 .f32 := iblk m c 2 t
/-- The keys' gain as a grid point reads it. -/
abbrev kb (t : Fin cfg0.N) : Vec Ideal S1x128 .f32 := iblk m c 3 t
/-- A grid point's block of the cosines. -/
abbrev cb (t : Fin cfg0.N) : Vec Ideal S512x128 .f32 := iblk m c 4 t
/-- A grid point's block of the table for the lanes shifted up. -/
abbrev ub (t : Fin cfg0.N) : Vec Ideal S512x128 .f32 := iblk m c 5 t
/-- A grid point's block of the table for the lanes shifted down. -/
abbrev db (t : Fin cfg0.N) : Vec Ideal S512x128 .f32 := iblk m c 6 t

/-- The block of the input at grid point `t` holds the rows from `t * 512`. -/
theorem x_at (t : Fin cfg0.N) (r : Fin 512) (e : Fin 2048) (R : Fin 16384) (hR : (R : ℕ) = t.val * 512 + r) :
    xb m c t (ix2 r e) = X m c (ix2 R e) := by
  refine Eq.trans (b := (V m c main_arg0 : FVec Ideal S16384x2048 .f32) (ix2 R e)) ?_ (congrFun (InprojTables.input_read m c) _)
  blk_point [iblk, idx t]

/-- The weights without their leading axis and rounded are, on extended reals, the weights. -/
theorem cast_at (w : FVec Ideal S1x2048x9728 .f32) (e : Fin 2048) (n : Fin 9728) :
    (truncf (F := Ideal) (φ := .f32) .bf16 (shapeCast S2048x9728 w shapeCasts_S1x2048x9728_S2048x9728) bitsLt_bf16_f32 : FVec Ideal S2048x9728 .bf16) (ix2 e n)
      = w (ix3 0 e n) := by
  pointwise

/-- Every grid point sees the attention columns of the weights. -/
theorem weight_at (t : Fin cfg0.N) (e : Fin 2048) (n : Fin 3584) : wb m c t (ix2 e n) = W m c (ix3 0 e ⟨n, by omega⟩) := by
  refine Eq.trans (b := (V m c main_v1 : FVec Ideal S2048x9728 .bf16) (ix2 e ⟨n, by omega⟩)) ?_ ((congrFun (InprojTables.weights_read m c) _).trans ?_)
  · show X0_1 m c t (ix2 e n) = _
    unfold X0_1 Pipeline.Window.fill
    rw [dif_pos (moved0_1 t _)]
    show V m c main_v1 _ = V m c main_v1 _
    refine congrArg (V m c main_v1) (funext fun a => ?_)
    match a with
    | ⟨0, _⟩ =>
      refine Fin.ext (show win0_1.index t 0 * 2048 + 1 * e.val = e.val from ?_)
      rw [(idx t).2.1]
      simp
    | ⟨1, _⟩ =>
      refine Fin.ext (show win0_1.index t 1 * 3584 + 1 * n.val = n.val from ?_)
      rw [(idx t).2.1]
      simp
  · exact cast_at (W m c) e _

/-- Every grid point sees the whole gain of the queries. -/
theorem qgain_at (t : Fin cfg0.N) (d : Fin 128) : qb m c t (ix2 0 d) = GQ m c (ix2 0 d) := by
  refine Eq.trans (b := (V m c main_v33 : FVec Ideal S1x128 .f32) (ix2 0 d)) ?_ ((congrFun (InprojTables.qgain_read m c) _).trans ?_)
  · blk_point [iblk, idx t]
  · pointwise

/-- Every grid point sees the whole gain of the keys. -/
theorem kgain_at (t : Fin cfg0.N) (d : Fin 128) : kb m c t (ix2 0 d) = GK m c (ix2 0 d) := by
  refine Eq.trans (b := (V m c main_v34 : FVec Ideal S1x128 .f32) (ix2 0 d)) ?_ ((congrFun (InprojTables.kgain_read m c) _).trans ?_)
  · blk_point [iblk, idx t]
  · pointwise

/-- The sequence position of a block's row. -/
def position (t : Fin cfg0.N) (r : Fin 512) : Fin 2048 := ⟨t.val % 4 * 512 + r, by omega⟩

/-- The blocks of the tables are the tables at the block's rows' sequence positions. -/
theorem tables (t : Fin cfg0.N) : InprojTiles.Tables (cb m c t) (ub m c t) (db m c t) fun r => position t r where
  cos_at r d := by
    refine Eq.trans (b := (V m c main_v27 : FVec Ideal S2048x128 .f32) (ix2 (position t r) d)) ?_ ((congrFun (InprojTables.cos_read m c) _).trans ?_)
    · unfold position
      blk_point [iblk, idx t]
    · exact congrArg Ideal.cos (InprojTables.angles_at _ d)
  up_at r d := by
    refine Eq.trans (b := (V m c main_v31 : FVec Ideal S2048x128 .f32) (ix2 (position t r) d)) ?_ ((congrFun (InprojTables.up_read m c) _).trans (InprojTables.ups_at _ d))
    unfold position
    blk_point [iblk, idx t]
  down_at r d := by
    refine Eq.trans (b := (V m c main_v32 : FVec Ideal S2048x128 .f32) (ix2 (position t r) d)) ?_ ((congrFun (InprojTables.down_read m c) _).trans (InprojTables.downs_at _ d))
    unfold position
    blk_point [iblk, idx t]

/-- A block's rows are the reference's. -/
theorem block_at (t : Fin cfg0.N) (r : Fin 512) (k : Fin 3584) (R : Fin 16384) (hR : (R : ℕ) = t.val * 512 + r) :
    outsAt0 m c t (ix2 r k) = InprojReference.result (X m c) (W m c) (GQ m c) (GK m c) (ix2 R k) := by
  rw [InprojBlock.out_at m c t (tables m c t) (ix2 r k) r k rfl rfl, InprojReference.result_at]
  have hrow : InprojTiles.row (xb m c t) (wb m c t) r = fun n : Fin 3584 => ∑ e : Fin 2048, X m c (ix2 R e) * W m c (ix3 0 e ⟨n, by omega⟩) :=
    funext fun n => Finset.sum_congr rfl fun e _ => by rw [x_at m c t r e R hR, weight_at]
  have hq : (fun e => qb m c t (ix2 0 e)) = fun e => GQ m c (ix2 0 e) := funext fun e => qgain_at m c t e
  have hk : (fun e => kb m c t (ix2 0 e)) = fun e => GK m c (ix2 0 e) := funext fun e => kgain_at m c t e
  have hp : ((position t r : Fin 2048) : ℕ) = R.val % 2048 := by
    show t.val % 4 * 512 + r.val = _
    omega
  show Rope.row (InprojTiles.row (xb m c t) (wb m c t) r) (fun e => qb m c t (ix2 0 e)) (fun e => kb m c t (ix2 0 e)) (position t r : Fin 2048) k = _
  rw [hrow, hq, hk, hp]

/-- The kernel's result array. -/
theorem final : (dats m 0 c).arrAt 7 (cfgs 0).N = InprojReference.result (X m c) (W m c) (GQ m c) (GK m c) := by
  refine (dats m 0 c).arrAt_eq_of_covers 7 _ (by decide +kernel) fun t hf y => ?_
  have ht : t.val < 32 := lt_of_lt_of_eq t.isLt N_0
  blk_simp
  rw [after0_7]
  have h0 : (y 0).val < 512 := (y 0).isLt
  have h1 : (y 1).val < 3584 := (y 1).isLt
  obtain ⟨r, k, rfl⟩ : ∃ (r : Fin 512) (k : Fin 3584), y = ix2 r k := ⟨y 0, y 1, by funext i; match i with | ⟨0, _⟩ => rfl | ⟨1, _⟩ => rfl⟩
  refine (block_at m c t r k ⟨t.val * 512 + r, by omega⟩ rfl).trans ?_
  blk_ext [idx t]

end Cert.InprojValue
end
-- ==== Proof.InprojClaim.lean ====
module

public import proofs.«01_k».proof.Defs
public import proofs.«01_k».proof.Proof.Gen.Inproj.Frame
public import proofs.«01_k».proof.Proof.InprojValue
public import Idealize.ShloMosaic.Adequacy
public import Idealize.ShloMosaic.Lib.Claim
public import Idealize.ShloMosaic.PureOps.Ideal.Laws

/-! The claims about the input projection. -/

@[expose] public section

set_option maxRecDepth 16384
noncomputable section
open Idealize.ShloMosaic Idealize.ShloMosaic.TcCoe Idealize.SL.Sem

namespace Cert.InprojClaim

instance : Cert.Inproj.Facts := Cert.Inproj.Gen.facts
instance : Cert.InprojIdeal.Facts := Cert.InprojIdeal.Gen.facts
instance : Cert.InprojRefIdeal.Facts := Cert.InprojRefIdeal.Gen.facts

/-- The kernel, run on bits, terminates with its arguments unchanged. -/
theorem frame : Cert.quiescent_Inproj := fun m ρ _ => Cert.Inproj.Gen.frame m ρ

/-- The kernel, run on extended reals, terminates with its arguments unchanged. -/
theorem frame_ideal : Cert.quiescent_InprojIdeal := fun m ρ _ => Cert.InprojIdeal.Gen.frame m ρ

/-- The reference terminates with its arguments unchanged. -/
theorem frame_ref : Cert.quiescent_InprojRefIdeal := fun m g _ =>
  (θ_run Cert.InprojRefIdeal.defs _ _).mono (fun r h => ⟨fun c => (h c).2, sem_eq_zero_of_no_sems (by decide) r.2⟩)
    (Cert.InprojRefIdeal.Value.run (F := Ideal) m g)

/-- Equal arguments give the reference equal results. -/
theorem result_congr {X X' : FVec Ideal Cert.InprojRefIdeal.S16384x2048 .f32} {W W' : FVec Ideal Cert.InprojRefIdeal.S1x2048x9728 .f32}
    {gq gq' gk gk' : FVec Ideal Cert.InprojRefIdeal.S1x128 .f32} (hX : X = X') (hW : W = W') (hq : gq = gq') (hk : gk = gk') :
    Cert.InprojReference.result X W gq gk = Cert.InprojReference.result X' W' gq' gk' := by
  rw [hX, hW, hq, hk]

set_option maxHeartbeats 4000000 in
/-- The kernel's result on extended reals is the reference's. -/
theorem algebraic : Cert.algebraic_InprojIdeal_InprojRefIdeal := by
  pair_intro
  · run_from Cert.InprojIdeal.Gen.run_main m g
    all_goals first
      | exact Cert.InprojIdeal.Gen.V_main_arg0 m c
      | exact Cert.InprojIdeal.Gen.V_main_arg1 m c
      | exact Cert.InprojIdeal.Gen.V_main_arg2 m c
      | exact Cert.InprojIdeal.Gen.V_main_arg3 m c
  · refine (θ_run Cert.InprojRefIdeal.defs _ _).mono (fun r h c => ?_) (Cert.InprojRefIdeal.Value.run (F := Ideal) m' g')
    refine ⟨?_, (h c).2⟩
    obtain ⟨h0, h1, h2, h3⟩ := hagree c
    have hv := ((h c).1.trans (Cert.InprojReference.run_result (StableHlo.launchContents m' c))).trans (result_congr h0 h1 h2 h3)
    exact hv.trans (Cert.InprojValue.final m c).symm

end Cert.InprojClaim
end
-- ==== Proof.MemAttnBlock.lean ====
module

public import proofs.«01_k».proof.Proof.Gen.MemAttnIdeal.Frame
public import proofs.«01_k».proof.Proof.Softmax

/-! What one grid point of the memory attention kernel writes, index by index. -/

@[expose] public section

set_option maxRecDepth 16384
noncomputable section
open Idealize.ShloMosaic Idealize.ShloMosaic.TcCoe Idealize.SL.Sem

namespace Cert.MemAttnBlock
open Cert.MemAttnIdeal Cert.MemAttnIdeal.Gen

/-- One head's tile: the values weighed by the row's unnormalised weights, divided by their total. -/
theorem pay_at (q : Vec Ideal S512x128 .bf16) (k v : Vec Ideal S256x128 .bf16) (r : Fin 512) (d : Fin 128) :
    k0_pay1 (F := Ideal) q k v (ix2 r d)
      = Ideal.div (∑ j, Softmax.expo (fun j => ∑ e, q (ix2 r e) * k (ix2 j e)) j * v (ix2 j d))
          (Softmax.total fun j => ∑ e, q (ix2 r e) * k (ix2 j e)) := by
  pointwise [k0_pay1]
  rfl

/-- A head's tile at an index, its operands read out of blocks: `n` is the head's place in the block. -/
theorem tile_at (q : Vec Ideal S512x512 .bf16) (kv : Vec Ideal S256x1024 .bf16) (q' : Vec Ideal S512x128 .bf16) (k' v' : Vec Ideal S256x128 .bf16)
    (n : ℕ) (hn : n < 4) (hq : ∀ (a : Fin 512) (e : Fin 128), q' (ix2 a e) = q (ix2 a (⟨n * 128 + e, by omega⟩ : Fin 512)))
    (hk : ∀ (a : Fin 256) (e : Fin 128), k' (ix2 a e) = kv (ix2 a (⟨n * 128 + e, by omega⟩ : Fin 1024)))
    (hv : ∀ (a : Fin 256) (e : Fin 128), v' (ix2 a e) = kv (ix2 a (⟨512 + (n * 128 + e), by omega⟩ : Fin 1024)))
    (x : S512x128.Idx) (r : Fin 512) (c : Fin 512) (hr : (x 0 : ℕ) = r) (hc : n * 128 + (x 1 : ℕ) = c) :
    k0_pay1 (F := Ideal) q' k' v' x
      = Ideal.div (∑ j, Softmax.expo (fun j => ∑ e : Fin 128, q (ix2 r (⟨c / 128 * 128 + e, by omega⟩ : Fin 512))
              * kv (ix2 j (⟨c / 128 * 128 + e, by omega⟩ : Fin 1024))) j * kv (ix2 j (⟨512 + c, by omega⟩ : Fin 1024)))
          (Softmax.total fun j => ∑ e : Fin 128, q (ix2 r (⟨c / 128 * 128 + e, by omega⟩ : Fin 512))
              * kv (ix2 j (⟨c / 128 * 128 + e, by omega⟩ : Fin 1024))) := by
  obtain ⟨a, d, rfl⟩ : ∃ (a : Fin 512) (d : Fin 128), x = ix2 a d := ⟨x 0, x 1, by funext i; match i with | ⟨0, _⟩ => rfl | ⟨1, _⟩ => rfl⟩
  have hd : d.val < 128 := d.isLt
  replace hr : a.val = r := hr
  replace hc : n * 128 + d.val = c := hc
  have hcd : c.val / 128 = n := by omega
  obtain rfl : a = r := Fin.ext hr
  rw [pay_at]
  simp only [hq, hk, hv, hcd, hc]

/-- The four heads' tiles lie side by side in the block: column `c` belongs to head `c / 128`. -/
theorem out_at (q : Vec Ideal S512x512 .bf16) (kv : Vec Ideal S256x1024 .bf16) (y : S512x512.Idx) (r : Fin 512) (c : Fin 512)
    (hr : (y 0 : ℕ) = r) (hc : (y 1 : ℕ) = c) :
    out0_2 (F := Ideal) q kv y
      = Ideal.div (∑ j, Softmax.expo (fun j => ∑ e : Fin 128, q (ix2 r (⟨c / 128 * 128 + e, by omega⟩ : Fin 512))
              * kv (ix2 j (⟨c / 128 * 128 + e, by omega⟩ : Fin 1024))) j * kv (ix2 j (⟨512 + c, by omega⟩ : Fin 1024)))
          (Softmax.total fun j => ∑ e : Fin 128, q (ix2 r (⟨c / 128 * 128 + e, by omega⟩ : Fin 512))
              * kv (ix2 j (⟨c / 128 * 128 + e, by omega⟩ : Fin 1024))) := by
  unfold out0_2
  canon_tiles x h
  case piece0 =>
    refine tile_at q kv _ _ _ 3 (by norm_num) (fun a e => ?_) (fun a e => ?_) (fun a e => ?_) x r c (by omega) (by omega) <;> (pointwise; blk_ext)
  case piece1 =>
    refine tile_at q kv _ _ _ 2 (by norm_num) (fun a e => ?_) (fun a e => ?_) (fun a e => ?_) x r c (by omega) (by omega) <;> (pointwise; blk_ext)
  case piece2 =>
    refine tile_at q kv _ _ _ 1 (by norm_num) (fun a e => ?_) (fun a e => ?_) (fun a e => ?_) x r c (by omega) (by omega) <;> (pointwise; blk_ext)
  case piece3 =>
    refine tile_at q kv _ _ _ 0 (by norm_num) (fun a e => ?_) (fun a e => ?_) (fun a e => ?_) x r c (by omega) (by omega) <;> (pointwise; blk_ext)

end Cert.MemAttnBlock
end
-- ==== Proof.MemAttnReference.lean ====
module

public import proofs.«01_k».proof.Proof.Gen.MemAttnRefIdeal.Run
public import proofs.«01_k».proof.Proof.Softmax

/-! What the memory attention's reference computes, index by index. -/

@[expose] public section

set_option maxRecDepth 16384
noncomputable section
open Idealize.ShloMosaic Idealize.ShloMosaic.TcCoe Idealize.SL.Sem

namespace Cert.MemAttnReference
open Cert.MemAttnRefIdeal Cert.MemAttnRefIdeal.Gen

/-- The memory's keys and values, taken apart by batch, row, keys or values, head. -/
def parts (K : FVec Ideal S2048x1024 .bf16) : FVec Ideal S8x256x2x4x128 .f32 :=
  shapeCast _ (extf .f32 K bitsLt_bf16_f32) shapeCasts_S2048x1024_S8x256x2x4x128

/-- The scores: batch, head, query row, memory row. -/
def scores (Z : FVec Ideal S16384x3584 .bf16) (K : FVec Ideal S2048x1024 .bf16) : FVec Ideal S8x4x2048x256 .f32 :=
  Host.dotGeneral dot_S8x2048x4x128_S8x256x4x128_S8x4x2048x256_3_3_1_1_02_02 none (shapeCast _ (extf .f32 (extractStridedSlice S16384x512 ![0, 3072] Z slices_S16384x3584_S16384x512_0_3072) bitsLt_bf16_f32) shapeCasts_S16384x512_S8x2048x4x128) (shapeCast _ (extractStridedSlice S8x256x1x4x128 ![0, 0, 0, 0, 0] (parts K) slices_S8x256x2x4x128_S8x256x1x4x128_0_0_0_0_0) shapeCasts_S8x256x1x4x128_S8x256x4x128)

/-- The largest score of each row. -/
def tops (S : FVec Ideal S8x4x2048x256 .f32) : FVec Ideal S8x4x2048 .f32 :=
  maximumf (broadcastInDim S8x4x2048 ![] bcast_S_S8x4x2048 (constant S_ .f32 0xFF800000#32)) (Host.reduce FloatOps.maximumf S (constant S_ .f32 0xFF800000#32) reducesTo_S8x4x2048x256_S8x4x2048_d3 h_S_)

/-- The unnormalised weights of an array of scores. -/
def expos (S : FVec Ideal S8x4x2048x256 .f32) : FVec Ideal S8x4x2048x256 .f32 :=
  Host.exp (subf S (broadcastInDim S8x4x2048x256 ![0, 1, 2, 3] bcast_S8x4x2048x1_S8x4x2048x256_0_1_2_3 (broadcastInDim S8x4x2048x1 ![0, 1, 2] bcast_S8x4x2048_S8x4x2048x1_0_1_2 (tops S))))

/-- The unnormalised weights divided by their row's total. -/
def weights (E : FVec Ideal S8x4x2048x256 .f32) : FVec Ideal S8x4x2048x256 .f32 :=
  Host.divf E (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd E (constant S_ .f32 0x00000000#32) reducesTo_S8x4x2048x256_S8x4x2048_d3 h_S_)))

/-- The weighted values, the heads back side by side. -/
def mixed (K : FVec Ideal S2048x1024 .bf16) (W : FVec Ideal S8x4x2048x256 .f32) : FVec Ideal S16384x512 .bf16 :=
  truncf .bf16 (shapeCast _ (transpose S8x2048x4x128 [0, 3, 1, 2] (Host.dotGeneral dot_S8x256x4x128_S8x4x2048x256_S8x4x128x2048_1_3_3_2_02_01 none (shapeCast _ (extractStridedSlice S8x256x1x4x128 ![0, 0, 1, 0, 0] (parts K) slices_S8x256x2x4x128_S8x256x1x4x128_0_0_1_0_0) shapeCasts_S8x256x1x4x128_S8x256x4x128) W) transposes_S8x4x128x2048_S8x2048x4x128_0_3_1_2) shapeCasts_S8x2048x4x128_S16384x512) bitsLt_bf16_f32

/-- The reference's result as a function of its arguments. -/
def result (Z : FVec Ideal S16384x3584 .bf16) (K : FVec Ideal S2048x1024 .bf16) : FVec Ideal S16384x512 .bf16 :=
  mixed K (weights (expos (scores Z K)))

/-- Where an entry of a head of the keys (`j = 0`) or the values (`j = 1`) lies among the columns. -/
theorem parts_at (K : FVec Ideal S2048x1024 .bf16) (b : Fin 8) (k : Fin 256) (j : Fin 2) (h : Fin 4) (e : Fin 128) :
    parts K (ix5 b k j h e) = K (ix2 (⟨b * 256 + k, by omega⟩ : Fin 2048) (⟨j * 512 + h * 128 + e, by omega⟩ : Fin 1024)) := by
  pointwise [parts]

/-- The score of query row `q` against memory row `k` is the inner product of the two rows of the head. -/
theorem scores_at (Z : FVec Ideal S16384x3584 .bf16) (K : FVec Ideal S2048x1024 .bf16) (b : Fin 8) (h : Fin 4) (q : Fin 2048) (k : Fin 256) :
    scores Z K (ix4 b h q k)
      = ∑ e : Fin 128, Z (ix2 (⟨b * 2048 + q, by omega⟩ : Fin 16384) (⟨3072 + (h * 128 + e), by omega⟩ : Fin 3584))
          * K (ix2 (⟨b * 256 + k, by omega⟩ : Fin 2048) (⟨h * 128 + e, by omega⟩ : Fin 1024)) := by
  pointwise [scores, parts]

/-- The largest score of a row, read at the row. -/
theorem tops_at (S : FVec Ideal S8x4x2048x256 .f32) (b : Fin 8) (h : Fin 4) (q : Fin 2048) :
    tops S (ix3 b h q) = Softmax.rowMax fun k => S (ix4 b h q k) :=
  Softmax.rowMax_at4 S reducesTo_S8x4x2048x256_S8x4x2048_d3 h_S_ bcast_S_S8x4x2048 b h q

/-- An unnormalised weight: the exponential of the score less the row's largest. -/
theorem expos_at (S : FVec Ideal S8x4x2048x256 .f32) (b : Fin 8) (h : Fin 4) (q : Fin 2048) (k : Fin 256) :
    expos S (ix4 b h q k) = Softmax.expo (fun k => S (ix4 b h q k)) k := by
  pointwise [expos, tops_at]
  rfl

/-- A weight: the unnormalised one over its row's total. -/
theorem weights_at (E : FVec Ideal S8x4x2048x256 .f32) (b : Fin 8) (h : Fin 4) (q : Fin 2048) (k : Fin 256) :
    weights E (ix4 b h q k) = Ideal.div (E (ix4 b h q k)) (∑ k, E (ix4 b h q k)) := by
  pointwise [weights]

/-- An entry of the result: the weights of its head and row against a column of the values. -/
theorem mixed_at (K : FVec Ideal S2048x1024 .bf16) (W : FVec Ideal S8x4x2048x256 .f32) (r : Fin 16384) (d : Fin 512) :
    mixed K W (ix2 r d)
      = ∑ k : Fin 256, K (ix2 (⟨r / 2048 * 256 + k, by omega⟩ : Fin 2048) (⟨512 + d, by omega⟩ : Fin 1024))
          * W (ix4 (⟨r / 2048, by omega⟩ : Fin 8) (⟨d / 128, by omega⟩ : Fin 4) (⟨r % 2048, by omega⟩ : Fin 2048) k) := by
  have e : 512 + d.val / 128 * 128 + d.val % 128 = 512 + d.val := by omega
  pointwise [mixed, parts]
  simp only [e]

/-- The scores of row `r` of the result against every memory row, for the head of column `d`. -/
def scoreRow (Z : FVec Ideal S16384x3584 .bf16) (K : FVec Ideal S2048x1024 .bf16) (r : Fin 16384) (d : Fin 512) (k : Fin 256) : EReal :=
  ∑ e : Fin 128, Z (ix2 r (⟨3072 + (d / 128 * 128 + e), by omega⟩ : Fin 3584))
    * K (ix2 (⟨r / 2048 * 256 + k, by omega⟩ : Fin 2048) (⟨d / 128 * 128 + e, by omega⟩ : Fin 1024))

/-- The values column `d` of the result weighs, memory row by memory row. -/
def valueCol (K : FVec Ideal S2048x1024 .bf16) (r : Fin 16384) (d : Fin 512) (k : Fin 256) : EReal :=
  K (ix2 (⟨r / 2048 * 256 + k, by omega⟩ : Fin 2048) (⟨512 + d, by omega⟩ : Fin 1024))

/-- An entry of the result is the sum of the head's value column weighed by the softmax of the row's scores. -/
theorem result_at (Z : FVec Ideal S16384x3584 .bf16) (K : FVec Ideal S2048x1024 .bf16) (r : Fin 16384) (d : Fin 512) :
    result Z K (ix2 r d) = ∑ k, valueCol K r d k * Softmax.weight (scoreRow Z K r d) k := by
  have hs : (fun k => scores Z K (ix4 (⟨r / 2048, by omega⟩ : Fin 8) (⟨d / 128, by omega⟩ : Fin 4) (⟨r % 2048, by omega⟩ : Fin 2048) k))
      = scoreRow Z K r d := by
    funext k
    rw [scores_at]
    refine Finset.sum_congr rfl fun e _ => ?_
    congr 3
    ext; simp; omega
  rw [result, mixed_at]
  refine Finset.sum_congr rfl fun k _ => ?_
  rw [weights_at, valueCol, Softmax.weight, Softmax.total]
  simp only [expos_at, hs]

end Cert.MemAttnReference
end
-- ==== Proof.MemAttnValue.lean ====
module

public import proofs.«01_k».proof.Proof.MemAttnBlock
public import proofs.«01_k».proof.Proof.MemAttnReference

/-! The memory attention kernel's result array is the reference's, for real queries and keys. -/

@[expose] public section

set_option maxRecDepth 16384
noncomputable section
open Idealize.ShloMosaic Idealize.ShloMosaic.TcCoe Idealize.SL.Sem
open Idealize.ShloMosaic.Pipeline (Dat)

namespace Cert.MemAttnValue
open Cert.MemAttnIdeal Cert.MemAttnIdeal.Gen

variable (m : (ℓ : Loc nD τ sig) → Buf (Elt Ideal) ℓ)

/-- The blocks a grid point takes: its tile of query rows and its batch's memory. -/
theorem idx : ∀ t : Fin cfg0.N, win0_0.index t = ![t.val, 6] ∧ win0_1.index t = ![t.val / 4, 0] ∧ win0_2.index t = ![t.val, 0] :=
  (by decide +kernel : ∀ t : Fin grid0.N, _)

/-- The array holding the queries. -/
abbrev arg (c : Dev nD) : FVec Ideal S16384x3584 .bf16 := m ((c : Thread nD τ).loc main_arg0)
/-- The memory's keys and values. -/
abbrev mem (c : Dev nD) : FVec Ideal S2048x1024 .bf16 := m ((c : Thread nD τ).loc main_arg1)

/-- The block of queries at a grid point. -/
abbrev qb (c : Dev nD) (t : Fin cfg0.N) : Vec Ideal S512x512 .bf16 := iblk m c 0 t
/-- The block of keys and values at a grid point. -/
abbrev kvb (c : Dev nD) (t : Fin cfg0.N) : Vec Ideal S256x1024 .bf16 := iblk m c 1 t

/-- Where the block of queries at a grid point lies in the projected array. -/
theorem q_at (c : Dev nD) (t : Fin cfg0.N) (r e : Fin 512) (R : Fin 16384) (C : Fin 3584)
    (hR : (R : ℕ) = t.val * 512 + r) (hC : (C : ℕ) = 3072 + e) :
    qb m c t (ix2 r e) = arg m c (ix2 R C) := by
  blk_point [iblk, V, idx t]

/-- The block of keys and values at grid point `t` holds the rows from `t / 4 * 256`. -/
theorem kv_at (c : Dev nD) (t : Fin cfg0.N) (r : Fin 256) (e : Fin 1024) (R : Fin 2048) (hR : (R : ℕ) = t.val / 4 * 256 + r) :
    kvb m c t (ix2 r e) = mem m c (ix2 R e) := by
  blk_point [iblk, V, idx t]

/-- A block's entry is the reference's entry at the row and the column the block's place gives it. -/
theorem core (c : Dev nD) (hz : ∀ (R : Fin 16384) (C : Fin 3584), 3072 ≤ C.val → ∃ x : ℝ, arg m c (ix2 R C) = x)
    (hk : ∀ (R : Fin 2048) (C : Fin 1024), C.val < 512 → ∃ x : ℝ, mem m c (ix2 R C) = x)
    (t : Fin cfg0.N) (y : S512x512.Idx) (r e : Fin 512) (hr : (y 0 : ℕ) = r) (he : (y 1 : ℕ) = e) (R : Fin 16384) (hR : (R : ℕ) = t.val * 512 + r) :
    out0_2 (F := Ideal) (qb m c t) (kvb m c t) y = MemAttnReference.result (arg m c) (mem m c) (ix2 R e) := by
  have ht : t.val < 32 := lt_of_lt_of_eq t.isLt N_0
  have hs : (fun j => ∑ a : Fin 128, qb m c t (ix2 r (⟨e / 128 * 128 + a, by omega⟩ : Fin 512)) * kvb m c t (ix2 j (⟨e / 128 * 128 + a, by omega⟩ : Fin 1024)))
      = MemAttnReference.scoreRow (arg m c) (mem m c) R e := by
    funext j
    refine Finset.sum_congr rfl fun a _ => ?_
    rw [q_at m c t r (⟨e / 128 * 128 + a, by omega⟩ : Fin 512) R ⟨3072 + (e / 128 * 128 + a), by omega⟩ hR rfl,
      kv_at m c t j _ ⟨R / 2048 * 256 + j, by omega⟩ (by simp only; omega)]
  have hv : (fun j => kvb m c t (ix2 j (⟨512 + e, by omega⟩ : Fin 1024))) = MemAttnReference.valueCol (mem m c) R e := by
    funext j
    exact kv_at m c t j _ ⟨R / 2048 * 256 + j, by omega⟩ (by simp only; omega)
  have hreal : ∀ j, ∃ x : ℝ, MemAttnReference.scoreRow (arg m c) (mem m c) R e j = x := fun j =>
    Softmax.sum_mul_is_real _ _ _ (fun a => hz _ _ (by simp only; omega)) (fun a => hk _ _ (by simp only; omega))
  rw [MemAttnBlock.out_at _ _ y r e hr he, MemAttnReference.result_at, ← Softmax.div_sum _ hreal, hs]
  exact congrArg (Ideal.div · _) (Finset.sum_congr rfl fun j _ => congrArg _ (congrFun hv j))

/-- The kernel's result array. -/
theorem final (c : Dev nD) (hz : ∀ (R : Fin 16384) (C : Fin 3584), 3072 ≤ C.val → ∃ x : ℝ, arg m c (ix2 R C) = x)
    (hk : ∀ (R : Fin 2048) (C : Fin 1024), C.val < 512 → ∃ x : ℝ, mem m c (ix2 R C) = x) :
    (dats m 0 c).arrAt 2 (cfgs 0).N = MemAttnReference.result (arg m c) (mem m c) := by
  refine (dats m 0 c).arrAt_eq_of_covers 2 _ (by decide +kernel) fun t _ y => ?_
  have ht : t.val < 32 := lt_of_lt_of_eq t.isLt N_0
  blk_simp
  rw [after0_2]
  have h0 : (y 0).val < 512 := (y 0).isLt
  have h1 : (y 1).val < 512 := (y 1).isLt
  refine (core m c hz hk t y (y 0) (y 1) rfl rfl ⟨t.val * 512 + y 0, by omega⟩ rfl).trans ?_
  blk_ext [idx t]

end Cert.MemAttnValue
end
-- ==== Proof.MemAttnClaim.lean ====
module

public import proofs.«01_k».proof.Defs
public import proofs.«01_k».proof.Proof.Gen.MemAttn.Frame
public import proofs.«01_k».proof.Proof.Gen.Pre_finite_mem
public import proofs.«01_k».proof.Proof.MemAttnValue
public import Idealize.ShloMosaic.Adequacy
public import Idealize.ShloMosaic.Lib.Claim
public import Idealize.ShloMosaic.PureOps.Ideal.Laws

/-! The claims about the memory attention call. -/

@[expose] public section

set_option maxRecDepth 16384
noncomputable section
open Idealize.ShloMosaic Idealize.ShloMosaic.TcCoe Idealize.SL.Sem

namespace Cert.MemAttnClaim

instance : Cert.MemAttn.Facts := Cert.MemAttn.Gen.facts
instance : Cert.MemAttnIdeal.Facts := Cert.MemAttnIdeal.Gen.facts
instance : Cert.MemAttnRefIdeal.Facts := Cert.MemAttnRefIdeal.Gen.facts
instance : Cert.Pre_finite_mem.Facts := Cert.Pre_finite_mem.Gen.facts

/-- The kernel, run on bits, terminates with its arguments unchanged. -/
theorem frame : Cert.quiescent_MemAttn := fun m ρ _ => Cert.MemAttn.Gen.frame m ρ

/-- The kernel, run on extended reals, terminates with its arguments unchanged. -/
theorem frame_ideal : Cert.quiescent_MemAttnIdeal := fun m ρ _ => Cert.MemAttnIdeal.Gen.frame m ρ

/-- The kernel's frame on extended reals, under the precondition. -/
theorem frame_ideal_pre : Cert.quiescent_MemAttnIdeal_pre_finite_mem := fun m ρ _ => Cert.MemAttnIdeal.Gen.frame m ρ

/-- The reference terminates with its arguments unchanged. -/
theorem frame_ref : Cert.quiescent_MemAttnRefIdeal := fun m g _ =>
  (θ_run Cert.MemAttnRefIdeal.defs _ _).mono (fun r h => ⟨fun c => (h c).2, sem_eq_zero_of_no_sems (by decide) r.2⟩)
    (Cert.MemAttnRefIdeal.Value.run (F := Ideal) m g)

/-- The reference's frame, under the precondition. -/
theorem frame_ref_pre : Cert.quiescent_MemAttnRefIdeal_pre_finite_mem := fun m g _ => frame_ref m g trivial

/-- Where the precondition holds, the columns of queries hold real numbers. -/
theorem real_queries (Z : FVec Ideal Cert.Pre_finite_mem.S16384x3584 .bf16) (K : FVec Ideal Cert.Pre_finite_mem.S2048x1024 .bf16)
    (h : (Cert.Pre_finite_mem.fn (F := Ideal) Z K).1 = fun _ => 1#1)
    (R : Fin 16384) (C : Fin 3584) (hC : 3072 ≤ C.val) : ∃ x : ℝ, Z (ix2 R C) = x := by
  have hlt : C.val - 3072 < 512 := by omega
  have h1 := congrFun h (ix2 R (⟨C.val - 3072, hlt⟩ : Fin 512))
  have e : 3072 + (C.val - 3072) = C.val := by omega
  refine Softmax.real_of_abs_lt _ ?_
  revert h1
  pointwise [Cert.Pre_finite_mem.fn]
  simp only [e]
  rw [Softmax.ofBits_inf, Ideal.absf_def]
  intro h1
  by_contra hn
  rw [decide_eq_false hn] at h1
  exact absurd h1 (by decide)

/-- Where the precondition holds, the columns of keys hold real numbers. -/
theorem real_keys (Z : FVec Ideal Cert.Pre_finite_mem.S16384x3584 .bf16) (K : FVec Ideal Cert.Pre_finite_mem.S2048x1024 .bf16)
    (h : (Cert.Pre_finite_mem.fn (F := Ideal) Z K).2 = fun _ => 1#1)
    (R : Fin 2048) (C : Fin 1024) (hC : C.val < 512) : ∃ x : ℝ, K (ix2 R C) = x := by
  have h1 := congrFun h (ix2 R (⟨C, hC⟩ : Fin 512))
  refine Softmax.real_of_abs_lt _ ?_
  revert h1
  pointwise [Cert.Pre_finite_mem.fn]
  rw [Softmax.ofBits_inf, Ideal.absf_def]
  intro h1
  by_contra hn
  rw [decide_eq_false hn] at h1
  exact absurd h1 (by decide)

/-- The kernel's result on extended reals is the reference's. -/
theorem algebraic : Cert.algebraic_MemAttnIdeal_MemAttnRefIdeal_pre_finite_mem := by
  pair_intro
  · run_from Cert.MemAttnIdeal.Gen.run_main m g
  · hlo_run
    exact (Cert.MemAttnValue.final m c (fun R C hC => real_queries _ _ (hpre c).1 R C hC)
      fun R C hC => real_keys _ _ (hpre c).2 R C hC).symm

end Cert.MemAttnClaim
end
-- ==== Proof.MemKvValue.lean ====
module

public import proofs.«01_k».proof.Proof.Gen.MemKvIdeal.Frame
public import proofs.«01_k».proof.Proof.Gen.MemKvRefIdeal.Run
public import Idealize.ShloMosaic.Lib.Pipeline.ValueKit
public import Idealize.ShloMosaic.Lib.Pointwise

/-! The memory's keys and values: what the kernel's blocks and the reference hold, index by index, and that they agree. -/

@[expose] public section

set_option maxRecDepth 16384
noncomputable section
open Idealize.ShloMosaic Idealize.ShloMosaic.TcCoe Idealize.SL.Sem
open Idealize.ShloMosaic.Pipeline (Dat)

namespace Cert.MemKvReference
open Cert.MemKvRefIdeal Cert.MemKvRefIdeal.Gen

/-- The reference's result as a function of its arguments. -/
def result (M : FVec Ideal S8x256x2048 .f32) (W : FVec Ideal S1x2048x1024 .f32) : FVec Ideal S2048x1024 .bf16 :=
  truncf .bf16 (shapeCast _ (Host.dotGeneral dot_S8x256x2048_S2048x1024_S8x256x1024_2_0_01_1_n_n none M (shapeCast _ W shapeCasts_S1x2048x1024_S2048x1024)) shapeCasts_S8x256x1024_S2048x1024) bitsLt_bf16_f32

/-- An entry of the result is the inner product of a memory row and a column of the weights. -/
theorem result_at (M : FVec Ideal S8x256x2048 .f32) (W : FVec Ideal S1x2048x1024 .f32) (r : Fin 2048) (d : Fin 1024) :
    result M W (ix2 r d) = ∑ e : Fin 2048, M (ix3 (⟨r / 256, by omega⟩ : Fin 8) (⟨r % 256, by omega⟩ : Fin 256) e) * W (ix3 0 e d) := by
  pointwise [result]

end Cert.MemKvReference

namespace Cert.MemKvValue
open Cert.MemKvIdeal Cert.MemKvIdeal.Gen

variable (m : (ℓ : Loc nD τ sig) → Buf (Elt Ideal) ℓ) (c : Dev nD)

/-- The blocks a grid point takes: its block of rows, and the weights whole. -/
theorem idx : ∀ t : Fin cfg0.N, win0_0.index t = ![t.val, 0] ∧ win0_1.index t = ![0, 0] ∧ win0_2.index t = ![t.val, 0] :=
  (by decide +kernel : ∀ t : Fin grid0.N, _)

/-- The memory. -/
abbrev M : FVec Ideal S8x256x2048 .f32 := m ((c.tc : Thread nD τ).loc main_arg0)
/-- The weights. -/
abbrev W : FVec Ideal S1x2048x1024 .f32 := m ((c.tc : Thread nD τ).loc main_arg1)
/-- A grid point's block of the memory's rows. -/
abbrev mb (t : Fin cfg0.N) : Vec Ideal S512x2048 .f32 := iblk m c 0 t
/-- The weights as a grid point reads them. -/
abbrev wb (t : Fin cfg0.N) : Vec Ideal S2048x1024 .bf16 := iblk m c 1 t

/-- The block of the memory at grid point `t` holds the flattened rows from `t * 512`. -/
theorem m_at (t : Fin cfg0.N) (r : Fin 512) (e : Fin 2048) (b : Fin 8) (R : Fin 256) (hR : (b : ℕ) * 256 + R = t.val * 512 + r) :
    mb m c t (ix2 r e) = M m c (ix3 b R e) := by
  blk_point [iblk, V, idx t]

/-- Every grid point sees the whole weights. -/
theorem w_at (t : Fin cfg0.N) (e : Fin 2048) (d : Fin 1024) : wb m c t (ix2 e d) = W m c (ix3 0 e d) := by
  blk_point [iblk, V, idx t]

/-- What a grid point computes of its blocks. -/
theorem pay_at (a : Vec Ideal S512x2048 .f32) (w : Vec Ideal S2048x1024 .bf16) (r : Fin 512) (d : Fin 1024) :
    k0_pay1 (F := Ideal) a w (ix2 r d) = ∑ e : Fin 2048, a (ix2 r e) * w (ix2 e d) := by
  pointwise [k0_pay1]

/-- An entry of the stored block is a row of the memory against a column of the weights. -/
theorem out_at (a : Vec Ideal S512x2048 .f32) (w : Vec Ideal S2048x1024 .bf16) (r : Fin 512) (d : Fin 1024) :
    out0_2 (F := Ideal) a w (ix2 r d) = ∑ e : Fin 2048, a (ix2 r e) * w (ix2 e d) := by
  unfold out0_2
  frame_out
  exact pay_at a w r d

/-- The kernel's result array. -/
theorem final : (dats m 0 c).arrAt 2 (cfgs 0).N = MemKvReference.result (M m c) (W m c) := by
  refine (dats m 0 c).arrAt_eq_of_covers 2 _ (by decide +kernel) fun t _ y => ?_
  have ht : t.val < 4 := lt_of_lt_of_eq t.isLt N_0
  blk_simp
  rw [after0_2]
  obtain ⟨r, d, rfl⟩ : ∃ (r : Fin 512) (d : Fin 1024), y = ix2 r d := ⟨y 0, y 1, by funext i; match i with | ⟨0, _⟩ => rfl | ⟨1, _⟩ => rfl⟩
  have h : out0_2 (F := Ideal) (mb m c t) (wb m c t) (ix2 r d) = MemKvReference.result (M m c) (W m c) (ix2 ⟨t.val * 512 + r, by omega⟩ d) := by
    rw [out_at, MemKvReference.result_at]
    refine Finset.sum_congr rfl fun e _ => ?_
    rw [w_at, m_at m c t r e ⟨(t.val * 512 + r) / 256, by omega⟩ ⟨(t.val * 512 + r) % 256, by omega⟩ (by simp only; omega)]
  refine h.trans ?_
  blk_ext [idx t]

end Cert.MemKvValue
end
-- ==== Proof.MemKvClaim.lean ====
module

public import proofs.«01_k».proof.Defs
public import proofs.«01_k».proof.Proof.Gen.MemKv.Frame
public import proofs.«01_k».proof.Proof.MemKvValue
public import Idealize.ShloMosaic.Adequacy
public import Idealize.ShloMosaic.Lib.Claim
public import Idealize.ShloMosaic.PureOps.Ideal.Laws

/-! The claims about the call making the memory keys and values. -/

@[expose] public section

set_option maxRecDepth 16384
noncomputable section
open Idealize.ShloMosaic Idealize.ShloMosaic.TcCoe Idealize.SL.Sem

namespace Cert.MemKvClaim

instance : Cert.MemKv.Facts := Cert.MemKv.Gen.facts
instance : Cert.MemKvIdeal.Facts := Cert.MemKvIdeal.Gen.facts
instance : Cert.MemKvRefIdeal.Facts := Cert.MemKvRefIdeal.Gen.facts

/-- The kernel, run on bits, terminates with its arguments unchanged. -/
theorem frame : Cert.quiescent_MemKv := fun m ρ _ => Cert.MemKv.Gen.frame m ρ

/-- The kernel, run on extended reals, terminates with its arguments unchanged. -/
theorem frame_ideal : Cert.quiescent_MemKvIdeal := fun m ρ _ => Cert.MemKvIdeal.Gen.frame m ρ

/-- The reference terminates with its arguments unchanged. -/
theorem frame_ref : Cert.quiescent_MemKvRefIdeal := fun m g _ =>
  (θ_run Cert.MemKvRefIdeal.defs _ _).mono (fun r h => ⟨fun c => (h c).2, sem_eq_zero_of_no_sems (by decide) r.2⟩)
    (Cert.MemKvRefIdeal.Value.run (F := Ideal) m g)

/-- The kernel's result on extended reals is the reference's. -/
theorem algebraic : Cert.algebraic_MemKvIdeal_MemKvRefIdeal := by
  pair_intro
  · run_from Cert.MemKvIdeal.Gen.run_main m g
  · hlo_run
    exact (Cert.MemKvValue.final m c).symm

end Cert.MemKvClaim
end
-- ==== Proof.Norm.lean ====
module

public import proofs.«01_k».proof.Proof.Softmax

/-! Layer normalisation of one row, and a factor of one half moved through a sum. -/

@[expose] public section

noncomputable section
open Idealize.ShloMosaic

namespace Cert.Norm

variable {n : ℕ}

/-- The mean of a row of 2048 entries. -/
def mean (s : Fin n → EReal) : EReal :=
  Ideal.div (∑ x, s x) (Ideal.ofBits .f32 0x45000000#32)

/-- An entry less the mean of its row. -/
def centre (s : Fin n → EReal) (d : Fin n) : EReal :=
  s d - mean s

/-- An entry times the reciprocal root of its row's mean square, then scaled and shifted. -/
def scale (t : Fin n → EReal) (g b : EReal) (d : Fin n) : EReal :=
  t d * Ideal.rsqrt (Ideal.div (∑ x, t x * t x) (Ideal.ofBits .f32 0x45000000#32) + Ideal.ofBits .f32 0x3727C5AC#32) * g + b

/-- Layer normalisation of a row at one of its columns. -/
def layerNorm (s : Fin n → EReal) (g b : EReal) (d : Fin n) : EReal :=
  scale (centre s) g b d

/-- The 32-bit pattern of one half denotes the real one half. -/
theorem ofBits_half : Ideal.ofBits .f32 0x3F000000#32 = ((1 / 2 : ℝ) : EReal) := by
  simp [Ideal.ofBits, Ideal.ieee]
  rw [← EReal.coe_mul]
  norm_num

/-- One half of a sum is the sum of the halves. -/
theorem half_sum {ι : Type} (A : Finset ι) (f : ι → EReal) :
    Ideal.ofBits .f32 0x3F000000#32 * ∑ k ∈ A, f k = ∑ k ∈ A, Ideal.ofBits .f32 0x3F000000#32 * f k := by
  rw [ofBits_half, mul_comm, Softmax.sum_mul_real A f _ (by norm_num)]
  exact Finset.sum_congr rfl fun k _ => mul_comm _ _

end Cert.Norm
end
-- ==== Proof.FfnLoops.lean ====
module

public import proofs.«01_k».proof.Proof.Gen.FfnIdeal.Value
public import Idealize.ShloMosaic.Lib.Pipeline.ValueKit
public import Idealize.ShloMosaic.Lib.Pipeline.CanonAppend
public import proofs.«01_k».proof.Proof.Norm

/-! What the feed-forward kernel's payloads and its two loops over row tiles compute, index by index. -/

@[expose] public section

set_option maxRecDepth 16384
noncomputable section
open Idealize.ShloMosaic Idealize.ShloMosaic.TcCoe Idealize.ShloMosaic.Tactic Idealize.SL.Sem

namespace Cert.FfnLoops
open Cert.FfnIdeal Cert.FfnIdeal.Gen

/-- A gate's or an upward projection's entry: a row of the block times a column of the weights. -/
def dotCol (x : Vec Ideal S1024x2048 .bf16) (w : Vec Ideal S2048x512 .bf16) (r : Fin 1024) (k : Fin 512) : EReal :=
  ∑ e : Fin 2048, x (ix2 r e) * w (ix2 e k)

/-- One point adds its 512 terms of the downward projection to the running block. -/
theorem pay3_at (x : Vec Ideal S1024x2048 .bf16) (wg wu : Vec Ideal S2048x512 .bf16) (acc : Vec Ideal S1024x2048 .f32) (wd : Vec Ideal S512x2048 .bf16)
    (r : Fin 1024) (d : Fin 2048) :
    k0_pay3 (F := Ideal) x wg wu acc wd (ix2 r d) = acc (ix2 r d)
      + ∑ k : Fin 512, dotCol x wg r k * Ideal.logistic (dotCol x wg r k) * (Ideal.ofBits .f32 0x3F000000#32 * dotCol x wu r k) * wd (ix2 k d) := by
  pointwise [k0_pay3]
  rfl

/-- A tile's rows are normalised one by one. -/
theorem pay4_at (g b : Vec Ideal S1x2048 .f32) (s : Vec Ideal S128x2048 .f32) (r : Fin 128) (d : Fin 2048) :
    k0_pay4 (F := Ideal) g b s (ix2 r d) = Norm.layerNorm (fun d => s (ix2 r d)) (g (ix2 0 d)) (b (ix2 0 d)) d := by
  pointwise [k0_pay4]
  rfl

/-- The block times the residual factor. -/
def scaled (x : Vec Ideal S1024x2048 .f32) : Vec Ideal S1024x2048 .f32 :=
  fun y => Ideal.ofBits .f32 0x3F9837F0#32 * x y

/-- The block with each row normalised. -/
def normed (g b : Vec Ideal S1x2048 .f32) (s : Vec Ideal S1024x2048 .f32) : Vec Ideal S1024x2048 .f32 :=
  fun y => Norm.layerNorm (fun d : Fin 2048 => s (ix2 (y 0) d)) (g (ix2 0 (y 1))) (b (ix2 0 (y 1))) (y 1)

/-- The first loop stores its chunk of the input unchanged. -/
theorem pay1_at (s : Vec Ideal S128x2048 .f32) (x : S128x2048.Idx) : k0_pay1 (F := Ideal) s x = s x := by
  obtain ⟨a, d, rfl⟩ : ∃ (a : Fin 128) (d : Fin 2048), x = ix2 a d := ⟨x 0, x 1, by funext i; match i with | ⟨0, _⟩ => rfl | ⟨1, _⟩ => rfl⟩
  pointwise [k0_pay1]

/-- The first loop stores its chunk of the input times the residual factor. -/
theorem pay2_at (s : Vec Ideal S128x2048 .f32) (x : S128x2048.Idx) : k0_pay2 (F := Ideal) s x = Ideal.ofBits .f32 0x3F9837F0#32 * s x := by
  obtain ⟨a, d, rfl⟩ : ∃ (a : Fin 128) (d : Fin 2048), x = ix2 a d := ⟨x 0, x 1, by funext i; match i with | ⟨0, _⟩ => rfl | ⟨1, _⟩ => rfl⟩
  pointwise [k0_pay2]

/-- A band of 128 rows at row `128 n`: where its elements lie. -/
theorem band_emb {off : Fin S1024x2048.rank → ℕ} {inb} {n : ℕ} (h0 : off 0 = 128 * n) (h1 : off 1 = 0) (a : Fin 128) (d : Fin 2048) (hn : n < 8) :
    (Rect.unit (s := S1024x2048) off S128x2048.size inb).emb (ix2 a d) = ix2 (⟨128 * n + a, by omega⟩ : Fin 1024) d := by
  funext j
  match j with
  | ⟨0, _⟩ => exact Fin.ext (show off 0 + 1 * (a : ℕ) = 128 * n + a by omega)
  | ⟨1, _⟩ => exact Fin.ext (show off 1 + 1 * (d : ℕ) = d by omega)

/-- Both loops' trip `k` works on the 128 rows from row `128 k`. -/
theorem off1 : ∀ k : Fin k0_t1_loop.trips, k0_off1 k = ![128 * k.val, 0] := by decide +kernel
/-- The second loop's trip `k` starts at row `128 * k`. -/
theorem off2 : ∀ k : Fin k0_t2_loop.trips, k0_off2 k = ![128 * k.val, 0] := by decide +kernel

section
variable (𝒱 : Variants) (c : Dev nD) (bd : Option 𝒱.V) (i : grid0.Coords) (a2 : Memref sig .tc .vmem S1024x2048 .f32) (h2 : a2.IsWhole)
    (a3 : Memref sig .tc .vmem S2048x512 .bf16) (h3 : a3.IsWhole) (a4 : Memref sig .tc .vmem S2048x512 .bf16) (h4 : a4.IsWhole)
    (a5 : Memref sig .tc .vmem S512x2048 .bf16) (h5 : a5.IsWhole) (a6 : Memref sig .tc .vmem S1x2048 .f32) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)

/-- Every piece the first loop's trips leave is a tile of the input, scaled in the output and as it is in the scratch. -/
theorem first_pieces (hc : k0_cond1 i = 1#1) (X : BufTy.Contents (Elt Ideal) a2.view.ty) (B : Vec Ideal S1024x2048 .f32)
    (hB : a2.view.read (Elt Ideal) X = B) : ∀ n : ℕ, n ≤ k0_t1_loop.trips →
    (∀ p ∈ (pb_k0_t1 𝒱 c bd i a2 h2 a3 h3 a4 h4 a5 h5 a6 h6 a7 h7 a8 h8 a9 h9 hc X n).1, ∀ x : p.1.shape.Idx, p.2 x = scaled B (p.1.emb x))
    ∧ (∀ p ∈ (pb_k0_t1 𝒱 c bd i a2 h2 a3 h3 a4 h4 a5 h5 a6 h6 a7 h7 a8 h8 a9 h9 hc X n).2, ∀ x : p.1.shape.Idx, p.2 x = B (p.1.emb x))
  | 0, _ => ⟨fun p hp => absurd hp List.not_mem_nil, fun p hp => absurd hp List.not_mem_nil⟩
  | n + 1, hn => by
    obtain ⟨ih1, ih2⟩ := first_pieces hc X B hB n (by omega)
    have hs := pb_k0_t1_succ 𝒱 c bd i a2 h2 a3 h3 a4 h4 a5 h5 a6 h6 a7 h7 a8 h8 a9 h9 hc X ⟨n, hn⟩
    dsimp only at hs
    rw [hs]
    unfold trip_k0_t1
    dsimp only
    subst hB
    constructor
    · intro p hp
      rcases List.mem_append.mp hp with h | h
      · obtain rfl := List.mem_singleton.mp h
        intro x
        exact pay2_at _ x
      · exact ih1 p h
    · intro p hp
      rcases List.mem_append.mp hp with h | h
      · obtain rfl := List.mem_singleton.mp h
        intro x
        exact pay1_at _ x
      · exact ih2 p h

/-- Every piece the second loop's first `n` trips leave lies in the first `128 n` rows and is a tile of the block with its rows normalised. -/
theorem second_pieces (hc : k0_cond2 i = 1#1) (g b : Vec Ideal S1x2048 .f32) (X : BufTy.Contents (Elt Ideal) a8.view.ty) (B : Vec Ideal S1024x2048 .f32)
    (hB : a8.view.read (Elt Ideal) X = B) : ∀ n : ℕ, n ≤ k0_t2_loop.trips →
    (∀ p ∈ pb_k0_t2 𝒱 c bd i a2 h2 a3 h3 a4 h4 a5 h5 a6 h6 a7 h7 a8 h8 a9 h9 hc g b X n,
      (∀ y ∈ p.1.set, (y 0 : ℕ) < 128 * n) ∧ ∀ x : p.1.shape.Idx, p.2 x = normed g b B (p.1.emb x))
  | 0, _ => fun p hp => absurd hp List.not_mem_nil
  | n + 1, hn => by
    have ih := second_pieces hc g b X B hB n (by omega)
    have hs := pb_k0_t2_succ 𝒱 c bd i a2 h2 a3 h3 a4 h4 a5 h5 a6 h6 a7 h7 a8 h8 a9 h9 hc g b X ⟨n, hn⟩
    dsimp only at hs
    rw [hs]
    unfold tripL_k0_t2 trip_k0_t2
    dsimp only
    have e := off2 ⟨n, hn⟩
    have e0 : k0_off2 ⟨n, hn⟩ 0 = 128 * n := congrFun e 0
    have e1 : k0_off2 ⟨n, hn⟩ 1 = 0 := congrFun e 1
    intro p hp
    rcases List.mem_append.mp hp with h | h
    · obtain rfl := List.mem_singleton.mp h
      refine ⟨fun y hy => ?_, fun x => ?_⟩
      · have hy0 := (Rect.mem_set_unit (s := S1024x2048) (size := S128x2048.size) (inb := k0_off2_inb i ⟨n, hn⟩ hc)).mp hy 0
        change k0_off2 ⟨n, hn⟩ 0 ≤ (y 0 : ℕ) ∧ (y 0 : ℕ) < k0_off2 ⟨n, hn⟩ 0 + 128 at hy0
        omega
      · obtain ⟨a, d, rfl⟩ : ∃ (a : Fin 128) (d : Fin 2048), x = ix2 a d := ⟨x 0, x 1, by funext i; match i with | ⟨0, _⟩ => rfl | ⟨1, _⟩ => rfl⟩
        refine (pay4_at _ _ _ a d).trans ?_
        have hn8 : n < 8 := lt_of_lt_of_le hn (by decide)
        have hread (d : Fin 2048) : a8.view.read (Elt Ideal) (a8.view.writes (Elt Ideal) X (pb_k0_t2 𝒱 c bd i a2 h2 a3 h3 a4 h4 a5 h5 a6 h6 a7 h7 a8 h8 a9 h9 hc g b X n))
            (ix2 (⟨128 * n + a, by omega⟩ : Fin 1024) d : S1024x2048.Idx) = B (ix2 ⟨128 * n + a, by omega⟩ d) := by
          refine (View.read_writes_apply_of_forall_not_mem _ _ _ _ fun p hp hy => ?_).trans (congrFun hB _)
          have := (ih p hp).1 _ hy
          change 128 * n + (a : ℕ) < 128 * n at this
          omega
        have hv (d : Fin 2048) := (congrArg (a8.view.read (Elt Ideal) (a8.view.writes (Elt Ideal) X
          (pb_k0_t2 𝒱 c bd i a2 h2 a3 h3 a4 h4 a5 h5 a6 h6 a7 h7 a8 h8 a9 h9 hc g b X n))) (band_emb (inb := k0_off2_inb i ⟨n, hn⟩ hc) e0 e1 a d hn8)).trans (hread d)
        refine Eq.trans ?_ (congrArg (normed g b B) (band_emb (inb := k0_off2_inb i ⟨n, hn⟩ hc) e0 e1 a d hn8)).symm
        exact congrArg (fun s : Fin 2048 → EReal => Norm.layerNorm s (g (ix2 0 d)) (b (ix2 0 d)) d) (funext hv)
    · obtain ⟨h1, h2⟩ := ih p h
      exact ⟨fun y hy => lt_of_lt_of_le (h1 y hy) (by omega), h2⟩

/-- After the first loop the output block holds the scaled input, -/
theorem first_output (hc : k0_cond1 i = 1#1) (X : BufTy.Contents (Elt Ideal) a2.view.ty) (y : S1024x2048.Idx) :
    View.canon (pb_k0_t1 𝒱 c bd i a2 h2 a3 h3 a4 h4 a5 h5 a6 h6 a7 h7 a8 h8 a9 h9 hc X k0_t1_loop.trips).1 y = scaled (a2.view.read (Elt Ideal) X) y :=
  View.canon_apply_of_pieces (scaled (a2.view.read (Elt Ideal) X)) _
    (first_pieces 𝒱 c bd i a2 h2 a3 h3 a4 h4 a5 h5 a6 h6 a7 h7 a8 h8 a9 h9 hc X _ rfl _ le_rfl).1 y
    (View.cover_of_tiledL (s := S1024x2048) _ S128x2048.size (by sl_kernel_rfl) y)

/-- and the scratch the input. -/
theorem first_scratch (hc : k0_cond1 i = 1#1) (X : BufTy.Contents (Elt Ideal) a2.view.ty) (y : S1024x2048.Idx) :
    View.canon (pb_k0_t1 𝒱 c bd i a2 h2 a3 h3 a4 h4 a5 h5 a6 h6 a7 h7 a8 h8 a9 h9 hc X k0_t1_loop.trips).2 y = a2.view.read (Elt Ideal) X y :=
  View.canon_apply_of_pieces (Val := Elt Ideal) (e := .bf16) (a2.view.read (Elt Ideal) X) _
    (first_pieces 𝒱 c bd i a2 h2 a3 h3 a4 h4 a5 h5 a6 h6 a7 h7 a8 h8 a9 h9 hc X _ rfl _ le_rfl).2 y
    (View.cover_of_tiledL (s := S1024x2048) _ S128x2048.size (by sl_kernel_rfl) y)

/-- After the second loop the output block holds its rows normalised. -/
theorem second_output (hc : k0_cond2 i = 1#1) (g b : Vec Ideal S1x2048 .f32) (X : BufTy.Contents (Elt Ideal) a8.view.ty)
    (L : List (View.Piece (Elt Ideal) S1024x2048 .f32)) (y : S1024x2048.Idx) :
    View.canon (pb_k0_t2 𝒱 c bd i a2 h2 a3 h3 a4 h4 a5 h5 a6 h6 a7 h7 a8 h8 a9 h9 hc g b X k0_t2_loop.trips ++ L) y
      = normed g b (a8.view.read (Elt Ideal) X) y :=
  View.canon_append_of_pieces (normed g b (a8.view.read (Elt Ideal) X)) _ _
    (fun p hp => (second_pieces 𝒱 c bd i a2 h2 a3 h3 a4 h4 a5 h5 a6 h6 a7 h7 a8 h8 a9 h9 hc g b X _ rfl _ le_rfl p hp).2) y
    (View.cover_of_tiledL (s := S1024x2048) _ S128x2048.size (by sl_kernel_rfl) y)

end
end Cert.FfnLoops
end
-- ==== Proof.FfnBlock.lean ====
module

public import proofs.«01_k».proof.Proof.FfnLoops

/-! What the feed-forward kernel's output block and scratch hold after each of the three kinds of grid point. -/

@[expose] public section

set_option maxRecDepth 16384
noncomputable section
open Idealize.ShloMosaic Idealize.ShloMosaic.TcCoe Idealize.ShloMosaic.Tactic Idealize.SL.Sem

namespace Cert.FfnBlock
open Cert.FfnIdeal Cert.FfnIdeal.Gen Cert.FfnLoops

variable (m : (ℓ : Loc nD τ sig) → Buf (Elt Ideal) ℓ) (c : Dev nD)

/-- The rectangle that is the whole block takes an index to itself. -/
theorem whole_idx (inb) (j : S1024x2048.Idx) : (Rect.unit (s := S1024x2048) ![0, 0] S1024x2048.size inb).toLoadRect.idx j = j := by
  funext a
  match a with
  | ⟨0, _⟩ => exact Fin.ext (show 0 + 1 * (j 0 : ℕ) = j 0 by omega)
  | ⟨1, _⟩ => exact Fin.ext (show 0 + 1 * (j 1 : ℕ) = j 1 by omega)

/-- A block written whole holds what was written. -/
theorem canon_whole (inb) (w : Vec Ideal S1024x2048 .f32) (y : S1024x2048.Idx) :
    View.canon (Val := Elt Ideal) (e := .f32) [⟨Rect.unit (s := S1024x2048) ![0, 0] S1024x2048.size inb, w⟩] y = w y := by
  refine View.canon_apply_of_pieces (Val := Elt Ideal) (e := .f32) w _ (fun p hp x => ?_) y
    (View.cover_of_tiledL (s := S1024x2048) _ S1024x2048.size (by sl_kernel_rfl) y)
  obtain rfl := List.mem_singleton.mp hp
  exact (congrArg w (whole_idx inb x)).symm

/-- At a block row's first point the scratch receives the input block, -/
theorem scratch_A (t : Fin cfg0.N) (h0 : t.1 % 11 = 0) (h1 : ¬ t.1 % 11 = 10) :
    (outsAt0 m c t.1 t.2).2 = iblk m c 0 t := by
  rw [outsAt0_A m c t h0 h1]
  funext y
  frame_out
  refine (first_scratch _ _ _ _ _ _ _ _ _ _ _ _ _ _ _ _ _ _ _ _ _ _ y).trans ?_
  rw [Memref.IsWhole.read_unread]

/-- and the output block the scaled input plus the first column block's part of the product. -/
theorem out_A (t : Fin cfg0.N) (h0 : t.1 % 11 = 0) (h1 : ¬ t.1 % 11 = 10) :
    (outsAt0 m c t.1 t.2).1 = k0_pay3 (iblk m c 0 t) (iblk m c 1 t) (iblk m c 2 t) (scaled (iblk m c 0 t)) (iblk m c 3 t) := by
  rw [outsAt0_A m c t h0 h1]
  funext y
  frame_out
  have hs (L : List (View.Piece (Elt Ideal) S1024x2048 .bf16)) (hL : ∀ y, View.canon L y = iblk m c 0 t y) (v : View sig .tc .vmem S1024x2048 .bf16) :
      v.readCov L (Rect.unit ![0, 0] ![1024, 2048] inb_S1024x2048_S1024x2048_0_0).toLoadRect = iblk m c 0 t := by
    rw [View.readCov_eq_canon']
    exact funext fun j => (congrArg (View.canon L) (whole_idx _ j)).trans (hL j)
  have ho (L : List (View.Piece (Elt Ideal) S1024x2048 .f32)) (hL : ∀ y, View.canon L y = scaled (iblk m c 0 t) y) (v : View sig .tc .vmem S1024x2048 .f32) :
      v.readCov L (Rect.unit ![0, 0] ![1024, 2048] inb_S1024x2048_S1024x2048_0_0).toLoadRect = scaled (iblk m c 0 t) := by
    rw [View.readCov_eq_canon']
    exact funext fun j => (congrArg (View.canon L) (whole_idx _ j)).trans (hL j)
  refine congrFun (congrArg₂ (fun a b => k0_pay3 a (iblk m c 1 t) (iblk m c 2 t) b (iblk m c 3 t)) (hs _ (fun y => ?_) _) (ho _ (fun y => ?_) _)) y
  · refine (first_scratch _ _ _ _ _ _ _ _ _ _ _ _ _ _ _ _ _ _ _ _ _ _ y).trans ?_
    rw [Memref.IsWhole.read_unread]
  · refine (first_output _ _ _ _ _ _ _ _ _ _ _ _ _ _ _ _ _ _ _ _ _ _ y).trans ?_
    rw [Memref.IsWhole.read_unread]

/-- At a middle point the scratch stays as it was, -/
theorem scratch_B (t : Fin cfg0.N) (h0 : ¬ t.1 % 11 = 0) (h1 : ¬ t.1 % 11 = 10) :
    (outsAt0 m c t.1 t.2).2 = (outsAt0 m c (t.1 - 1) (Nat.lt_of_le_of_lt (Nat.sub_le _ _) t.isLt)).2 := by
  rw [outsAt0_B m c t h0 h1]
  rfl

/-- and the output block gains its column block's part of the product. -/
theorem out_B (t : Fin cfg0.N) (h0 : ¬ t.1 % 11 = 0) (h1 : ¬ t.1 % 11 = 10) :
    (outsAt0 m c t.1 t.2).1 = k0_pay3 (outsAt0 m c (t.1 - 1) (Nat.lt_of_le_of_lt (Nat.sub_le _ _) t.isLt)).2 (iblk m c 1 t) (iblk m c 2 t)
      (outsAt0 m c (t.1 - 1) (Nat.lt_of_le_of_lt (Nat.sub_le _ _) t.isLt)).1 (iblk m c 3 t) := by
  obtain ⟨n, hn⟩ := t
  cases n with
  | zero => exact absurd rfl h0
  | succ n =>
    rw [outsAt0_B m c ⟨n + 1, hn⟩ h0 h1]
    funext y
    frame_out
    exact congrArg (fun s => k0_pay3 s _ _ _ _ y) (Memref.IsWhole.read_unread _ _)

/-- At a block row's last point the output block gains the last part and has its rows normalised. -/
theorem out_C (t : Fin cfg0.N) (h0 : ¬ t.1 % 11 = 0) (h1 : t.1 % 11 = 10) :
    (outsAt0 m c t.1 t.2).1 = normed (iblk m c 4 t) (iblk m c 5 t)
      (k0_pay3 (outsAt0 m c (t.1 - 1) (Nat.lt_of_le_of_lt (Nat.sub_le _ _) t.isLt)).2 (iblk m c 1 t) (iblk m c 2 t)
      (outsAt0 m c (t.1 - 1) (Nat.lt_of_le_of_lt (Nat.sub_le _ _) t.isLt)).1 (iblk m c 3 t)) := by
  obtain ⟨n, hn⟩ := t
  cases n with
  | zero => exact absurd rfl h0
  | succ n =>
    rw [outsAt0_C m c ⟨n + 1, hn⟩ h0 h1]
    funext y
    frame_out
    refine (second_output _ _ _ _ _ _ _ _ _ _ _ _ _ _ _ _ _ _ _ _ _ _ _ _ _ y).trans ?_
    refine congrArg (fun s => normed (iblk m c 4 ⟨n + 1, hn⟩) (iblk m c 5 ⟨n + 1, hn⟩) s y) ?_
    rw [View.read_writes_junk_eq_canon]
    refine Eq.trans ?_ (congrArg (fun s => k0_pay3 s (iblk m c 1 ⟨n + 1, hn⟩) (iblk m c 2 ⟨n + 1, hn⟩)
      (outsAt0 m c (n + 1 - 1) (Nat.lt_of_le_of_lt (Nat.sub_le _ _) hn)).1 (iblk m c 3 ⟨n + 1, hn⟩))
      (Memref.IsWhole.read_unread (Val := Elt Ideal) (m := scM0_0) (Memref.isWhole_whole _) (outsAt0 m c (n + 1 - 1) (Nat.lt_of_le_of_lt (Nat.sub_le _ _) hn)).2))
    funext z
    exact canon_whole _ _ z

end Cert.FfnBlock
end
-- ==== Proof.FfnReference.lean ====
module

public import proofs.«01_k».proof.Proof.Gen.FfnRefIdeal.Run
public import proofs.«01_k».proof.Proof.Norm

/-! What the feed-forward reference computes, index by index. -/

@[expose] public section

set_option maxRecDepth 16384
noncomputable section
open Idealize.ShloMosaic Idealize.ShloMosaic.TcCoe Idealize.SL.Sem

namespace Cert.FfnReference
open Cert.FfnRefIdeal Cert.FfnRefIdeal.Gen

/-- The input times the weights of the gate and of the upward projection, side by side. -/
def projected (X : FVec Ideal S16384x2048 .f32) (W : FVec Ideal S1x2048x11264 .f32) : FVec Ideal S16384x11264 .f32 :=
  Host.dotGeneral dot_S16384x2048_S2048x11264_S16384x11264_1_0_0_1_n_n none X (shapeCast _ W shapeCasts_S1x2048x11264_S2048x11264)

/-- The gated units: the left half through the sigmoid-weighted unit, times the right half. -/
def gated (P : FVec Ideal S16384x11264 .f32) : FVec Ideal S16384x5632 .f32 :=
  mulf (mulf (extractStridedSlice S16384x5632 ![0, 0] P slices_S16384x11264_S16384x5632_0_0) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (extractStridedSlice S16384x5632 ![0, 0] P slices_S16384x11264_S16384x5632_0_0)))))) (extractStridedSlice S16384x5632 ![0, 5632] P slices_S16384x11264_S16384x5632_0_5632)

/-- The scaled input plus half of the units projected down. -/
def summed (X : FVec Ideal S16384x2048 .f32) (U : FVec Ideal S16384x5632 .f32) (D : FVec Ideal S1x5632x2048 .f32) : FVec Ideal S16384x2048 .f32 :=
  addf (mulf (broadcastInDim S16384x2048 ![] bcast_S_S16384x2048 (constant S_ .f32 0x3F9837F0#32)) X) (mulf (broadcastInDim S16384x2048 ![] bcast_S_S16384x2048 (constant S_ .f32 0x3F000000#32)) (Host.dotGeneral dot_S16384x5632_S5632x2048_S16384x2048_1_0_0_1_n_n none U (shapeCast _ D shapeCasts_S1x5632x2048_S5632x2048)))

/-- Each entry less the mean of its row. -/
def centred (S : FVec Ideal S16384x2048 .f32) : FVec Ideal S16384x2048 .f32 :=
  subf S (broadcastInDim S16384x2048 ![0, 1] bcast_S16384x1_S16384x2048_0_1 (Host.divf (broadcastInDim S16384x1 ![0] bcast_S16384_S16384x1_0 (Host.reduceAdd S (constant S_ .f32 0x00000000#32) reducesTo_S16384x2048_S16384_d1 h_S_)) (broadcastInDim S16384x1 ![] bcast_S_S16384x1 (constant S_ .f32 0x45000000#32))))

/-- Centred rows brought to unit variance, then scaled and shifted column by column. -/
def scaled (T : FVec Ideal S16384x2048 .f32) (g b : FVec Ideal S1x2048 .f32) : FVec Ideal S16384x2048 .f32 :=
  addf (mulf (mulf T (broadcastInDim S16384x2048 ![0, 1] bcast_S16384x1_S16384x2048_0_1 (Host.rsqrt (addf (Host.divf (broadcastInDim S16384x1 ![0] bcast_S16384_S16384x1_0 (Host.reduceAdd (mulf T T) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (shapeCast _ g shapeCasts_S1x2048_S2048)))) (broadcastInDim S16384x2048 ![0, 1] bcast_S1x2048_S16384x2048_0_1 (broadcastInDim S1x2048 ![1] bcast_S2048_S1x2048_1 (shapeCast _ b shapeCasts_S1x2048_S2048)))

/-- The reference's result as a function of its arguments. -/
def result (X : FVec Ideal S16384x2048 .f32) (W : FVec Ideal S1x2048x11264 .f32) (D : FVec Ideal S1x5632x2048 .f32) (g b : FVec Ideal S1x2048 .f32) :
    FVec Ideal S16384x2048 .f32 :=
  scaled (centred (summed X (gated (projected X W)) D)) g b

/-- The run's result is the composition of the stages above. -/
theorem result_eq (m : (ℓ : Loc nD τ sig) → Buf (Elt Ideal) ℓ) (c : Dev nD) :
    Cert.FfnRefIdeal.Value.res_main_v38 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- An entry of the projection is a row of the input against a column of the weights. -/
theorem projected_at (X : FVec Ideal S16384x2048 .f32) (W : FVec Ideal S1x2048x11264 .f32) (r : Fin 16384) (n : Fin 11264) :
    projected X W (ix2 r n) = ∑ e : Fin 2048, X (ix2 r e) * W (ix3 0 e n) := by
  pointwise [projected]

/-- An entry of the gated array: the gate column times its sigmoid times the up column. -/
theorem gated_at (P : FVec Ideal S16384x11264 .f32) (r : Fin 16384) (n : Fin 5632) :
    gated P (ix2 r n) = P (ix2 r (⟨n, by omega⟩ : Fin 11264)) * Ideal.logistic (P (ix2 r (⟨n, by omega⟩ : Fin 11264)))
      * P (ix2 r (⟨5632 + n, by omega⟩ : Fin 11264)) := by
  pointwise [gated]
  rfl

/-- An entry before the layer norm: the residual plus half the product with the second weights. -/
theorem summed_at (X : FVec Ideal S16384x2048 .f32) (U : FVec Ideal S16384x5632 .f32) (D : FVec Ideal S1x5632x2048 .f32) (r : Fin 16384) (d : Fin 2048) :
    summed X U D (ix2 r d) = Ideal.ofBits .f32 0x3F9837F0#32 * X (ix2 r d)
      + Ideal.ofBits .f32 0x3F000000#32 * ∑ n : Fin 5632, U (ix2 r n) * D (ix3 0 n d) := by
  pointwise [summed]

/-- An entry less its row's mean. -/
theorem centred_at (S : FVec Ideal S16384x2048 .f32) (r : Fin 16384) (d : Fin 2048) :
    centred S (ix2 r d) = Norm.centre (fun d => S (ix2 r d)) d := by
  pointwise [centred]
  rfl

/-- A centred entry over its row's deviation, times the gain, plus the shift. -/
theorem scaled_at (T : FVec Ideal S16384x2048 .f32) (g b : FVec Ideal S1x2048 .f32) (r : Fin 16384) (d : Fin 2048) :
    scaled T g b (ix2 r d) = Norm.scale (fun d => T (ix2 r d)) (g (ix2 0 d)) (b (ix2 0 d)) d := by
  pointwise [scaled]
  rfl

/-- Column `n` of row `r` times the projection weights. -/
def dotRow (X : FVec Ideal S16384x2048 .f32) (W : FVec Ideal S1x2048x11264 .f32) (r : Fin 16384) (n : Fin 11264) : EReal :=
  ∑ e : Fin 2048, X (ix2 r e) * W (ix3 0 e n)

/-- One term of the downward projection, the factor one half moved onto the upward projection. -/
def term (X : FVec Ideal S16384x2048 .f32) (W : FVec Ideal S1x2048x11264 .f32) (D : FVec Ideal S1x5632x2048 .f32) (r : Fin 16384) (d : Fin 2048)
    (n : Fin 5632) : EReal :=
  dotRow X W r (⟨n, by omega⟩ : Fin 11264) * Ideal.logistic (dotRow X W r (⟨n, by omega⟩ : Fin 11264))
    * (Ideal.ofBits .f32 0x3F000000#32 * dotRow X W r (⟨5632 + n, by omega⟩ : Fin 11264)) * D (ix3 0 n d)

/-- The row that is normalised: the scaled input plus the terms of the downward projection. -/
def row (X : FVec Ideal S16384x2048 .f32) (W : FVec Ideal S1x2048x11264 .f32) (D : FVec Ideal S1x5632x2048 .f32) (r : Fin 16384) (d : Fin 2048) : EReal :=
  Ideal.ofBits .f32 0x3F9837F0#32 * X (ix2 r d) + ∑ n : Fin 5632, term X W D r d n

/-- The reference normalises each row of the scaled input plus the halved terms. -/
theorem result_at (X : FVec Ideal S16384x2048 .f32) (W : FVec Ideal S1x2048x11264 .f32) (D : FVec Ideal S1x5632x2048 .f32) (g b : FVec Ideal S1x2048 .f32)
    (r : Fin 16384) (d : Fin 2048) :
    result X W D g b (ix2 r d) = Norm.layerNorm (row X W D r) (g (ix2 0 d)) (b (ix2 0 d)) d := by
  have hrow : (fun d => summed X (gated (projected X W)) D (ix2 r d)) = row X W D r := by
    funext d
    rw [summed_at, Norm.half_sum]
    unfold row
    congr 1
    refine Finset.sum_congr rfl fun n _ => ?_
    rw [gated_at]
    simp only [projected_at]
    unfold term dotRow
    simp only [mul_assoc, mul_left_comm]
  unfold result
  rw [scaled_at]
  simp only [centred_at]
  rw [hrow]
  rfl

end Cert.FfnReference
end
-- ==== Proof.FfnValue.lean ====
module

public import proofs.«01_k».proof.Proof.FfnBlock
public import proofs.«01_k».proof.Proof.FfnReference

/-! The feed-forward kernel's result array is the reference's: the blocks it reads, the running sum over the column blocks, the array. -/

@[expose] public section

set_option maxRecDepth 16384
noncomputable section
open Idealize.ShloMosaic Idealize.ShloMosaic.TcCoe Idealize.ShloMosaic.Tactic Idealize.SL.Sem
open Idealize.ShloMosaic.Pipeline (Dat)

namespace Cert.FfnValue
open Cert.FfnIdeal Cert.FfnIdeal.Gen Cert.FfnLoops

variable (m : (ℓ : Loc nD τ sig) → Buf (Elt Ideal) ℓ) (c : Dev nD)

/-- The blocks a grid point takes: `t / 11` is its block of rows, `t % 11` its block of columns of the weights. -/
theorem idx : ∀ t : Fin cfg0.N, win0_0.index t = ![t.val / 11, 0] ∧ win0_1.index t = ![0, t.val % 11] ∧ win0_2.index t = ![0, 11 + t.val % 11]
    ∧ win0_3.index t = ![t.val % 11, 0] ∧ win0_4.index t = ![0, 0] ∧ win0_5.index t = ![0, 0] ∧ win0_6.index t = ![t.val / 11, 0] :=
  (by decide +kernel : ∀ t : Fin grid0.N, _)

/-- The layer's input. -/
abbrev X : FVec Ideal S16384x2048 .f32 := m ((c.tc : Thread nD τ).loc main_arg0)
/-- The weights of the gate and the upward projection side by side. -/
abbrev W : FVec Ideal S1x2048x11264 .f32 := m ((c.tc : Thread nD τ).loc main_arg1)
/-- The weights of the downward projection. -/
abbrev D : FVec Ideal S1x5632x2048 .f32 := m ((c.tc : Thread nD τ).loc main_arg2)
/-- The normalisation's scale. -/
abbrev G : FVec Ideal S1x2048 .f32 := m ((c.tc : Thread nD τ).loc main_arg3)
/-- The normalisation's shift. -/
abbrev B : FVec Ideal S1x2048 .f32 := m ((c.tc : Thread nD τ).loc main_arg4)

/-- A grid point's block of the input. -/
abbrev xb (t : Fin cfg0.N) : Vec Ideal S1024x2048 .f32 := iblk m c 0 t
/-- A grid point's block of the gate's weights. -/
abbrev gb (t : Fin cfg0.N) : Vec Ideal S2048x512 .bf16 := iblk m c 1 t
/-- A grid point's block of the upward projection's weights. -/
abbrev ub (t : Fin cfg0.N) : Vec Ideal S2048x512 .bf16 := iblk m c 2 t
/-- A grid point's block of the downward projection's weights. -/
abbrev db (t : Fin cfg0.N) : Vec Ideal S512x2048 .bf16 := iblk m c 3 t
/-- The scale as a grid point reads it. -/
abbrev sb (t : Fin cfg0.N) : Vec Ideal S1x2048 .f32 := iblk m c 4 t
/-- The shift as a grid point reads it. -/
abbrev bb (t : Fin cfg0.N) : Vec Ideal S1x2048 .f32 := iblk m c 5 t

/-- The block of the input at grid point `t` holds the rows from `t / 11 * 1024`. -/
theorem x_at (t : Fin cfg0.N) (r : Fin 1024) (e : Fin 2048) (R : Fin 16384) (hR : (R : ℕ) = t.val / 11 * 1024 + r) :
    xb m c t (ix2 r e) = X m c (ix2 R e) := by
  blk_point [iblk, V, idx t]

/-- The block of gate weights at grid point `t` holds the columns from `t % 11 * 512`. -/
theorem gate_at (t : Fin cfg0.N) (e : Fin 2048) (k : Fin 512) (n : Fin 11264) (hn : (n : ℕ) = t.val % 11 * 512 + k) :
    gb m c t (ix2 e k) = W m c (ix3 0 e n) := by
  blk_point [iblk, V, idx t]

/-- The block of up weights at grid point `t` holds the columns from `(11 + t % 11) * 512`. -/
theorem up_at (t : Fin cfg0.N) (e : Fin 2048) (k : Fin 512) (n : Fin 11264) (hn : (n : ℕ) = (11 + t.val % 11) * 512 + k) :
    ub m c t (ix2 e k) = W m c (ix3 0 e n) := by
  blk_point [iblk, V, idx t]

/-- The block of the second weights at grid point `t` holds the rows from `t % 11 * 512`. -/
theorem down_at (t : Fin cfg0.N) (k : Fin 512) (d : Fin 2048) (n : Fin 5632) (hn : (n : ℕ) = t.val % 11 * 512 + k) :
    db m c t (ix2 k d) = D m c (ix3 0 n d) := by
  blk_point [iblk, V, idx t]

/-- Every grid point sees the whole gain. -/
theorem scale_at (t : Fin cfg0.N) (d : Fin 2048) : sb m c t (ix2 0 d) = G m c (ix2 0 d) := by
  blk_point [iblk, V, idx t]

/-- Every grid point sees the whole shift. -/
theorem shift_at (t : Fin cfg0.N) (d : Fin 2048) : bb m c t (ix2 0 d) = B m c (ix2 0 d) := by
  blk_point [iblk, V, idx t]

/-- The terms of one column block. -/
def chunk (R : Fin 16384) (d : Fin 2048) (s : Fin 11) : EReal :=
  ∑ k : Fin 512, FfnReference.term (X m c) (W m c) (D m c) R d ⟨s * 512 + k, by omega⟩

/-- One grid point adds its column block's terms to the running block. -/
theorem step (t : Fin cfg0.N) (xs : Vec Ideal S1024x2048 .bf16) (acc : Vec Ideal S1024x2048 .f32) (r : Fin 1024) (d : Fin 2048) (R : Fin 16384)
    (hx : ∀ e, xs (ix2 r e) = X m c (ix2 R e)) :
    k0_pay3 (F := Ideal) xs (gb m c t) (ub m c t) acc (db m c t) (ix2 r d) = acc (ix2 r d) + chunk m c R d ⟨t.val % 11, by omega⟩ := by
  rw [pay3_at]
  refine congrArg (acc (ix2 r d) + ·) (Finset.sum_congr rfl fun k _ => ?_)
  have hg : dotCol xs (gb m c t) r k = FfnReference.dotRow (X m c) (W m c) R ⟨t.val % 11 * 512 + k, by omega⟩ :=
    Finset.sum_congr rfl fun e _ => by rw [hx, gate_at m c t e k ⟨t.val % 11 * 512 + k, by omega⟩ rfl]
  have hu : dotCol xs (ub m c t) r k = FfnReference.dotRow (X m c) (W m c) R ⟨5632 + (t.val % 11 * 512 + k), by omega⟩ :=
    Finset.sum_congr rfl fun e _ => by rw [hx, up_at m c t e k ⟨5632 + (t.val % 11 * 512 + k), by omega⟩ (by simp only; omega)]
  rw [hg, hu, down_at m c t k d ⟨t.val % 11 * 512 + k, by omega⟩ rfl]
  rfl

/-- Before a block of rows' last point the scratch holds its input, and the output block the scaled input plus the terms of the column blocks so far. -/
theorem running (q : ℕ) (hq : q < 16) : ∀ (j : ℕ) (hj : j < 10) (hn : 11 * q + j < cfg0.N) (r : Fin 1024),
    (∀ e, (outsAt0 m c (11 * q + j) hn).2 (ix2 r e) = X m c (ix2 ⟨q * 1024 + r, by omega⟩ e))
    ∧ ∀ d, (outsAt0 m c (11 * q + j) hn).1 (ix2 r d) = Ideal.ofBits .f32 0x3F9837F0#32 * X m c (ix2 ⟨q * 1024 + r, by omega⟩ d)
      + ∑ s : Fin (j + 1), chunk m c ⟨q * 1024 + r, by omega⟩ d ⟨s, by omega⟩
  | 0, hj, hn, r => by
    have h0 : (⟨11 * q + 0, hn⟩ : Fin cfg0.N).1 % 11 = 0 := by simp only; omega
    have h1 : ¬ (⟨11 * q + 0, hn⟩ : Fin cfg0.N).1 % 11 = 10 := by simp only; omega
    have hx (e : Fin 2048) : xb m c ⟨11 * q + 0, hn⟩ (ix2 r e) = X m c (ix2 ⟨q * 1024 + r, by omega⟩ e) :=
      x_at m c _ r e _ (by simp only; omega)
    refine ⟨fun e => ?_, fun d => ?_⟩
    · rw [FfnBlock.scratch_A m c ⟨11 * q + 0, hn⟩ h0 h1]
      exact hx e
    · rw [FfnBlock.out_A m c ⟨11 * q + 0, hn⟩ h0 h1]
      refine (step m c ⟨11 * q + 0, hn⟩ (xb m c _) (scaled (xb m c _)) r d _ hx).trans ?_
      rw [Fin.sum_univ_one]
      refine congrArg₂ (· + ·) (congrArg (Ideal.ofBits .f32 0x3F9837F0#32 * ·) (hx d)) (congrArg (chunk m c _ d) (Fin.ext h0))
  | j + 1, hj, hn, r => by
    obtain ⟨hs, ho⟩ := running q hq j (by omega) (by omega) r
    have h0 : ¬ (⟨11 * q + (j + 1), hn⟩ : Fin cfg0.N).1 % 11 = 0 := by simp only; omega
    have h1 : ¬ (⟨11 * q + (j + 1), hn⟩ : Fin cfg0.N).1 % 11 = 10 := by simp only; omega
    refine ⟨fun e => ?_, fun d => ?_⟩
    · rw [FfnBlock.scratch_B m c ⟨11 * q + (j + 1), hn⟩ h0 h1]
      exact hs e
    · rw [FfnBlock.out_B m c ⟨11 * q + (j + 1), hn⟩ h0 h1]
      refine (step m c ⟨11 * q + (j + 1), hn⟩ _ _ r d _ hs).trans ?_
      rw [Fin.sum_univ_castSucc]
      refine Eq.trans ?_ (add_assoc _ _ _)
      exact congrArg₂ (· + ·) (ho d) (congrArg (chunk m c _ d) (Fin.ext (by simp only [Fin.val_last]; omega)))

/-- At its last point the output block holds the reference's rows. -/
theorem last (t : Fin cfg0.N) (h1 : t.1 % 11 = 10) (r : Fin 1024) (d : Fin 2048) (R : Fin 16384) (hR : (R : ℕ) = t.val / 11 * 1024 + r) :
    (outsAt0 m c t.1 t.2).1 (ix2 r d) = FfnReference.result (X m c) (W m c) (D m c) (G m c) (B m c) (ix2 R d) := by
  obtain ⟨n, hn⟩ := t
  obtain ⟨q, rfl⟩ : ∃ q, n = 11 * q + 10 := ⟨n / 11, by simp only at h1; omega⟩
  have hN : 11 * q + 10 < 176 := lt_of_lt_of_eq hn N_0
  have hlt : q * 1024 + r < 16384 := by omega
  obtain rfl : R = ⟨q * 1024 + r, hlt⟩ := Fin.ext (by simp only at hR ⊢; omega)
  obtain ⟨hs, ho⟩ := running m c q (by omega) 9 (by omega) (Nat.lt_of_succ_lt hn) r
  rw [FfnBlock.out_C m c ⟨11 * q + 10, hn⟩ (by simp only; omega) h1, FfnReference.result_at]
  have hrow : ∀ d, k0_pay3 (F := Ideal) (outsAt0 m c (11 * q + 9) (Nat.lt_of_succ_lt hn)).2 (gb m c ⟨11 * q + 10, hn⟩) (ub m c ⟨11 * q + 10, hn⟩)
      (outsAt0 m c (11 * q + 9) (Nat.lt_of_succ_lt hn)).1 (db m c ⟨11 * q + 10, hn⟩) (ix2 r d)
      = FfnReference.row (X m c) (W m c) (D m c) ⟨q * 1024 + r, by omega⟩ d := fun d => by
    refine (step m c ⟨11 * q + 10, hn⟩ _ _ r d _ hs).trans ?_
    rw [ho d, add_assoc]
    refine congrArg (Ideal.ofBits .f32 0x3F9837F0#32 * X m c (ix2 ⟨q * 1024 + r, by omega⟩ d) + ·) ?_
    have e : chunk m c ⟨q * 1024 + r, by omega⟩ d ⟨(11 * q + 10) % 11, by omega⟩ = chunk m c ⟨q * 1024 + r, by omega⟩ d (Fin.last 10) :=
      congrArg (chunk m c _ d) (Fin.ext h1)
    refine (congrArg (_ + ·) e).trans ((Fin.sum_univ_castSucc (n := 10) fun s => chunk m c ⟨q * 1024 + r, by omega⟩ d s).symm.trans ?_)
    exact Fin.sum_mul_add_congr fun s k hl => rfl
  refine (congrArg (fun s : Fin 2048 → EReal => Norm.layerNorm s (sb m c ⟨11 * q + 10, hn⟩ (ix2 0 d)) (bb m c ⟨11 * q + 10, hn⟩ (ix2 0 d)) d) (funext hrow)).trans ?_
  rw [scale_at, shift_at]

/-- The kernel's result array. -/
theorem final : (dats m 0 c).arrAt 6 (cfgs 0).N = FfnReference.result (X m c) (W m c) (D m c) (G m c) (B m c) := by
  refine (dats m 0 c).arrAt_eq_of_covers 6 _ (by decide +kernel) fun t hf y => ?_
  have ht : t.val < 176 := lt_of_lt_of_eq t.isLt N_0
  blk_simp
  rw [after0_6]
  have h0 : (y 0).val < 1024 := (y 0).isLt
  have h1 : (y 1).val < 2048 := (y 1).isLt
  obtain ⟨r, d, rfl⟩ : ∃ (r : Fin 1024) (d : Fin 2048), y = ix2 r d := ⟨y 0, y 1, by funext i; match i with | ⟨0, _⟩ => rfl | ⟨1, _⟩ => rfl⟩
  refine (last m c t ((flush0_6 t).mp hf) r d ⟨t.val / 11 * 1024 + r, by omega⟩ rfl).trans ?_
  blk_ext [idx t]

end Cert.FfnValue
end
-- ==== Proof.FfnClaim.lean ====
module

public import proofs.«01_k».proof.Defs
public import proofs.«01_k».proof.Proof.Gen.Ffn.Frame
public import proofs.«01_k».proof.Proof.FfnValue
public import Idealize.ShloMosaic.Adequacy
public import Idealize.ShloMosaic.Lib.Claim
public import Idealize.ShloMosaic.PureOps.Ideal.Laws

/-! The claims about the feed-forward call. -/

@[expose] public section

set_option maxRecDepth 16384
noncomputable section
open Idealize.ShloMosaic Idealize.ShloMosaic.TcCoe Idealize.SL.Sem

namespace Cert.FfnClaim

instance : Cert.Ffn.Facts := Cert.Ffn.Gen.facts
instance : Cert.FfnIdeal.Facts := Cert.FfnIdeal.Gen.facts
instance : Cert.FfnRefIdeal.Facts := Cert.FfnRefIdeal.Gen.facts

/-- The kernel, run on bits, terminates with its arguments unchanged. -/
theorem frame : Cert.quiescent_Ffn := fun m ρ _ => Cert.Ffn.Gen.frame m ρ

/-- The kernel, run on extended reals, terminates with its arguments unchanged. -/
theorem frame_ideal : Cert.quiescent_FfnIdeal := fun m ρ _ => Cert.FfnIdeal.Gen.frame m ρ

/-- The reference terminates with its arguments unchanged. -/
theorem frame_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The kernel's result on extended reals is the reference's. -/
theorem algebraic : Cert.algebraic_FfnIdeal_FfnRefIdeal := by
  pair_intro
  · run_from Cert.FfnIdeal.Gen.run_main m g
  · hlo_run
    exact (Cert.FfnValue.final m c).symm

end Cert.FfnClaim
end
-- ==== Proof.MergeLoops.lean ====
module

public import proofs.«01_k».proof.Proof.Gen.MergeIdeal.Value
public import Idealize.ShloMosaic.Lib.Pipeline.ValueKit
public import Idealize.ShloMosaic.Lib.Pipeline.CanonAppend
public import proofs.«01_k».proof.Proof.Norm

/-! What the merge kernel's payloads and its two loops over row tiles compute, index by index. -/

@[expose] public section

set_option maxRecDepth 16384
noncomputable section
open Idealize.ShloMosaic Idealize.ShloMosaic.TcCoe Idealize.ShloMosaic.Tactic Idealize.SL.Sem

namespace Cert.MergeLoops
open Cert.MergeIdeal Cert.MergeIdeal.Gen

/-- A branch through its gate, at a row of the block and a column: `bg` is the gate's bias there. -/
def gatedCol {n : ℕ} (x : Vec Ideal S512x2048 .bf16) (w : Vec Ideal S2048x256 .bf16) (bg : EReal) (o : Fin n → EReal) (v : Fin n → EReal)
    (r : Fin 512) (k : Fin 256) : EReal :=
  Ideal.logistic ((∑ e : Fin 2048, x (ix2 r e) * w (ix2 e k)) + bg) * ∑ e : Fin n, o e * v e

/-- The block of the merged branches at a row and a column. -/
def blockMix (x : Vec Ideal S512x2048 .bf16) (bg : Vec Ideal S3x256 .f32) (w0 w1 w2 : Vec Ideal S2048x256 .bf16) (o0 : Vec Ideal S512x1024 .bf16)
    (o1 o2 : Vec Ideal S512x512 .bf16) (v0 : Vec Ideal S1024x256 .bf16) (v1 v2 : Vec Ideal S512x256 .bf16) (r : Fin 512) (k : Fin 256) : EReal :=
  gatedCol x w0 (bg (ix2 0 k)) (fun e : Fin 1024 => o0 (ix2 r e)) (fun e => v0 (ix2 e k)) r k
    + gatedCol x w1 (bg (ix2 1 k)) (fun e : Fin 512 => o1 (ix2 r e)) (fun e => v1 (ix2 e k)) r k
    + gatedCol x w2 (bg (ix2 2 k)) (fun e : Fin 512 => o2 (ix2 r e)) (fun e => v2 (ix2 e k)) r k

/-- What one point stores in the output block: the running block plus its columns' part of the projection. -/
abbrev stepped (x : Vec Ideal S512x2048 .bf16) (bg : Vec Ideal S3x256 .f32) (w0 w1 w2 : Vec Ideal S2048x256 .bf16) (o0 : Vec Ideal S512x1024 .bf16)
    (o1 o2 : Vec Ideal S512x512 .bf16) (v0 : Vec Ideal S1024x256 .bf16) (v1 v2 : Vec Ideal S512x256 .bf16) (acc : Vec Ideal S512x2048 .f32)
    (p : Vec Ideal S256x2048 .bf16) : Vec Ideal S512x2048 .f32 :=
  k0_pay1 x (k0_pay5 bg) (k0_pay6 x bg w0 o0 v0 w1 o1 v1) (k0_pay7 w2) o2 v2 acc p

/-- An entry of the first two gated branches' sum. -/
theorem first_two_at (x : Vec Ideal S512x2048 .bf16) (bg : Vec Ideal S3x256 .f32) (w0 w1 : Vec Ideal S2048x256 .bf16) (o0 : Vec Ideal S512x1024 .bf16)
    (o1 : Vec Ideal S512x512 .bf16) (v0 : Vec Ideal S1024x256 .bf16) (v1 : Vec Ideal S512x256 .bf16) (r : Fin 512) (k : Fin 256) :
    k0_pay6 (F := Ideal) x bg w0 o0 v0 w1 o1 v1 (ix2 r k)
      = gatedCol x w0 (bg (ix2 0 k)) (fun e : Fin 1024 => o0 (ix2 r e)) (fun e => v0 (ix2 e k)) r k
        + gatedCol x w1 (bg (ix2 1 k)) (fun e : Fin 512 => o1 (ix2 r e)) (fun e => v1 (ix2 e k)) r k := by
  pointwise [k0_pay6, k0_pay5]
  rfl

/-- An entry of the sum with the last gated branch added. -/
theorem last_at (x : Vec Ideal S512x2048 .bf16) (bg : FVec Ideal S3x256 .f32) (s : FVec Ideal S512x256 .f32) (w2 : FVec Ideal S2048x256 .bf16)
    (o2 : Vec Ideal S512x512 .bf16) (v2 : Vec Ideal S512x256 .bf16) (acc : Vec Ideal S512x2048 .f32) (p : Vec Ideal S256x2048 .bf16)
    (r : Fin 512) (d : Fin 2048) :
    k0_pay1 (F := Ideal) x bg s w2 o2 v2 acc p (ix2 r d) = acc (ix2 r d)
      + ∑ k : Fin 256, (s (ix2 r k) + gatedCol x w2 (bg (ix2 2 k)) (fun e : Fin 512 => o2 (ix2 r e)) (fun e => v2 (ix2 e k)) r k) * p (ix2 k d) := by
  pointwise [k0_pay1]
  rfl

/-- One point adds its 256 terms of the projection to the running block. -/
theorem stepped_at (x : Vec Ideal S512x2048 .bf16) (bg : Vec Ideal S3x256 .f32) (w0 w1 w2 : Vec Ideal S2048x256 .bf16) (o0 : Vec Ideal S512x1024 .bf16)
    (o1 o2 : Vec Ideal S512x512 .bf16) (v0 : Vec Ideal S1024x256 .bf16) (v1 v2 : Vec Ideal S512x256 .bf16) (acc : Vec Ideal S512x2048 .f32)
    (p : Vec Ideal S256x2048 .bf16) (r : Fin 512) (d : Fin 2048) :
    stepped x bg w0 w1 w2 o0 o1 o2 v0 v1 v2 acc p (ix2 r d) = acc (ix2 r d)
      + ∑ k : Fin 256, blockMix x bg w0 w1 w2 o0 o1 o2 v0 v1 v2 r k * p (ix2 k d) := by
  have h5 : k0_pay5 (F := Ideal) bg = bg := by
    funext j
    obtain ⟨a, b, rfl⟩ : ∃ (a : Fin 3) (b : Fin 256), j = ix2 a b := ⟨j 0, j 1, by funext i; match i with | ⟨0, _⟩ => rfl | ⟨1, _⟩ => rfl⟩
    pointwise [k0_pay5]
  have h7 : k0_pay7 (F := Ideal) w2 = w2 := by
    funext j
    obtain ⟨a, b, rfl⟩ : ∃ (a : Fin 2048) (b : Fin 256), j = ix2 a b := ⟨j 0, j 1, by funext i; match i with | ⟨0, _⟩ => rfl | ⟨1, _⟩ => rfl⟩
    pointwise [k0_pay7]
  unfold stepped
  rw [last_at, h5, h7]
  simp only [first_two_at]
  rfl

/-- A tile's rows are normalised one by one. -/
theorem norm_at (g b : Vec Ideal S1x2048 .f32) (s : Vec Ideal S128x2048 .f32) (r : Fin 128) (d : Fin 2048) :
    k0_pay2 (F := Ideal) g b s (ix2 r d) = Norm.layerNorm (fun d => s (ix2 r d)) (g (ix2 0 d)) (b (ix2 0 d)) d := by
  pointwise [k0_pay2]
  rfl

/-- The block times the residual factor. -/
def scaled (x : Vec Ideal S512x2048 .f32) : Vec Ideal S512x2048 .f32 :=
  fun y => Ideal.ofBits .f32 0x3F9837F0#32 * x y

/-- The block with each row normalised. -/
def normed (g b : Vec Ideal S1x2048 .f32) (s : Vec Ideal S512x2048 .f32) : Vec Ideal S512x2048 .f32 :=
  fun y => Norm.layerNorm (fun d : Fin 2048 => s (ix2 (y 0) d)) (g (ix2 0 (y 1))) (b (ix2 0 (y 1))) (y 1)

/-- The first loop stores its chunk of the input unchanged. -/
theorem copy_at (s : Vec Ideal S128x2048 .f32) (x : S128x2048.Idx) : k0_pay3 (F := Ideal) s x = s x := by
  obtain ⟨a, d, rfl⟩ : ∃ (a : Fin 128) (d : Fin 2048), x = ix2 a d := ⟨x 0, x 1, by funext i; match i with | ⟨0, _⟩ => rfl | ⟨1, _⟩ => rfl⟩
  pointwise [k0_pay3]

/-- The first loop stores its chunk of the input times the residual factor. -/
theorem scaled_at (s : Vec Ideal S128x2048 .f32) (x : S128x2048.Idx) : k0_pay4 (F := Ideal) s x = Ideal.ofBits .f32 0x3F9837F0#32 * s x := by
  obtain ⟨a, d, rfl⟩ : ∃ (a : Fin 128) (d : Fin 2048), x = ix2 a d := ⟨x 0, x 1, by funext i; match i with | ⟨0, _⟩ => rfl | ⟨1, _⟩ => rfl⟩
  pointwise [k0_pay4]

/-- A band of 128 rows at row `128 n`: where its elements lie. -/
theorem band_emb {off : Fin S512x2048.rank → ℕ} {inb} {n : ℕ} (h0 : off 0 = 128 * n) (h1 : off 1 = 0) (a : Fin 128) (d : Fin 2048) (hn : n < 4) :
    (Rect.unit (s := S512x2048) off S128x2048.size inb).emb (ix2 a d) = ix2 (⟨128 * n + a, by omega⟩ : Fin 512) d := by
  funext j
  match j with
  | ⟨0, _⟩ => exact Fin.ext (show off 0 + 1 * (a : ℕ) = 128 * n + a by omega)
  | ⟨1, _⟩ => exact Fin.ext (show off 1 + 1 * (d : ℕ) = d by omega)

/-- Both loops' trip `k` works on the 128 rows from row `128 k`. -/
theorem off1 : ∀ k : Fin k0_t1_loop.trips, k0_off1 k = ![128 * k.val, 0] := by decide +kernel
/-- The second loop's trip `k` starts at row `128 * k`. -/
theorem off2 : ∀ k : Fin k0_t2_loop.trips, k0_off2 k = ![128 * k.val, 0] := by decide +kernel

section
variable (𝒱 : Variants) (c : Dev nD) (bd : Option 𝒱.V) (i : grid0.Coords)
    (a2 : Memref sig .tc .vmem S512x2048 .f32) (h2 : a2.IsWhole) (a3 : Memref sig .tc .vmem S512x1024 .bf16) (h3 : a3.IsWhole)
    (a4 : Memref sig .tc .vmem S512x512 .bf16) (h4 : a4.IsWhole) (a5 : Memref sig .tc .vmem S512x512 .bf16) (h5 : a5.IsWhole)
    (a6 : Memref sig .tc .vmem S2048x256 .bf16) (h6 : a6.IsWhole) (a7 : Memref sig .tc .vmem S2048x256 .bf16) (h7 : a7.IsWhole)
    (a8 : Memref sig .tc .vmem S2048x256 .bf16) (h8 : a8.IsWhole) (a9 : Memref sig .tc .vmem S3x256 .f32) (h9 : a9.IsWhole)
    (a10 : Memref sig .tc .vmem S1024x256 .bf16) (h10 : a10.IsWhole) (a11 : Memref sig .tc .vmem S512x256 .bf16) (h11 : a11.IsWhole)
    (a12 : Memref sig .tc .vmem S512x256 .bf16) (h12 : a12.IsWhole) (a13 : Memref sig .tc .vmem S256x2048 .bf16) (h13 : a13.IsWhole)
    (a14 : Memref sig .tc .vmem S1x2048 .f32) (h14 : a14.IsWhole) (a15 : Memref sig .tc .vmem S1x2048 .f32) (h15 : a15.IsWhole)
    (a16 : Memref sig .tc .vmem S512x2048 .f32) (h16 : a16.IsWhole) (a17 : Memref sig .tc .vmem S512x2048 .bf16) (h17 : a17.IsWhole)

/-- Every piece the first loop's trips leave is a tile of the input, scaled in the output and as it is in the scratch. -/
theorem first_pieces (hc : k0_cond1 i = 1#1) (X : BufTy.Contents (Elt Ideal) a2.view.ty) (B : Vec Ideal S512x2048 .f32)
    (hB : a2.view.read (Elt Ideal) X = B) : ∀ n : ℕ, n ≤ k0_t1_loop.trips →
    (∀ p ∈ (pb_k0_t1 𝒱 c bd i a2 h2 a3 h3 a4 h4 a5 h5 a6 h6 a7 h7 a8 h8 a9 h9 a10 h10 a11 h11 a12 h12 a13 h13 a14 h14 a15 h15 a16 h16 a17 h17 hc X n).1, ∀ x : p.1.shape.Idx, p.2 x = scaled B (p.1.emb x))
    ∧ (∀ p ∈ (pb_k0_t1 𝒱 c bd i a2 h2 a3 h3 a4 h4 a5 h5 a6 h6 a7 h7 a8 h8 a9 h9 a10 h10 a11 h11 a12 h12 a13 h13 a14 h14 a15 h15 a16 h16 a17 h17 hc X n).2, ∀ x : p.1.shape.Idx, p.2 x = B (p.1.emb x))
  | 0, _ => ⟨fun p hp => absurd hp List.not_mem_nil, fun p hp => absurd hp List.not_mem_nil⟩
  | n + 1, hn => by
    obtain ⟨ih1, ih2⟩ := first_pieces hc X B hB n (by omega)
    have hs := pb_k0_t1_succ 𝒱 c bd i a2 h2 a3 h3 a4 h4 a5 h5 a6 h6 a7 h7 a8 h8 a9 h9 a10 h10 a11 h11 a12 h12 a13 h13 a14 h14 a15 h15 a16 h16 a17 h17 hc X ⟨n, hn⟩
    dsimp only at hs
    rw [hs]
    unfold trip_k0_t1
    dsimp only
    subst hB
    constructor
    · intro p hp
      rcases List.mem_append.mp hp with h | h
      · obtain rfl := List.mem_singleton.mp h
        intro x
        exact scaled_at _ x
      · exact ih1 p h
    · intro p hp
      rcases List.mem_append.mp hp with h | h
      · obtain rfl := List.mem_singleton.mp h
        intro x
        exact copy_at _ x
      · exact ih2 p h

/-- Every piece the second loop's first `n` trips leave lies in the first `128 n` rows and is a tile of the block with its rows normalised. -/
theorem second_pieces (hc : k0_cond2 i = 1#1) (g b : Vec Ideal S1x2048 .f32) (X : BufTy.Contents (Elt Ideal) a16.view.ty) (B : Vec Ideal S512x2048 .f32)
    (hB : a16.view.read (Elt Ideal) X = B) : ∀ n : ℕ, n ≤ k0_t2_loop.trips →
    (∀ p ∈ pb_k0_t2 𝒱 c bd i a2 h2 a3 h3 a4 h4 a5 h5 a6 h6 a7 h7 a8 h8 a9 h9 a10 h10 a11 h11 a12 h12 a13 h13 a14 h14 a15 h15 a16 h16 a17 h17 hc g b X n,
      (∀ y ∈ p.1.set, (y 0 : ℕ) < 128 * n) ∧ ∀ x : p.1.shape.Idx, p.2 x = normed g b B (p.1.emb x))
  | 0, _ => fun p hp => absurd hp List.not_mem_nil
  | n + 1, hn => by
    have ih := second_pieces hc g b X B hB n (by omega)
    have hs := pb_k0_t2_succ 𝒱 c bd i a2 h2 a3 h3 a4 h4 a5 h5 a6 h6 a7 h7 a8 h8 a9 h9 a10 h10 a11 h11 a12 h12 a13 h13 a14 h14 a15 h15 a16 h16 a17 h17 hc g b X ⟨n, hn⟩
    dsimp only at hs
    rw [hs]
    unfold tripL_k0_t2 trip_k0_t2
    dsimp only
    have e := off2 ⟨n, hn⟩
    have e0 : k0_off2 ⟨n, hn⟩ 0 = 128 * n := congrFun e 0
    have e1 : k0_off2 ⟨n, hn⟩ 1 = 0 := congrFun e 1
    intro p hp
    rcases List.mem_append.mp hp with h | h
    · obtain rfl := List.mem_singleton.mp h
      refine ⟨fun y hy => ?_, fun x => ?_⟩
      · have hy0 := (Rect.mem_set_unit (s := S512x2048) (size := S128x2048.size) (inb := k0_off2_inb i ⟨n, hn⟩ hc)).mp hy 0
        change k0_off2 ⟨n, hn⟩ 0 ≤ (y 0 : ℕ) ∧ (y 0 : ℕ) < k0_off2 ⟨n, hn⟩ 0 + 128 at hy0
        omega
      · obtain ⟨a, d, rfl⟩ : ∃ (a : Fin 128) (d : Fin 2048), x = ix2 a d := ⟨x 0, x 1, by funext i; match i with | ⟨0, _⟩ => rfl | ⟨1, _⟩ => rfl⟩
        refine (norm_at _ _ _ a d).trans ?_
        have hn8 : n < 4 := lt_of_lt_of_le hn (by decide)
        have hread (d : Fin 2048) : a16.view.read (Elt Ideal) (a16.view.writes (Elt Ideal) X (pb_k0_t2 𝒱 c bd i a2 h2 a3 h3 a4 h4 a5 h5 a6 h6 a7 h7 a8 h8 a9 h9 a10 h10 a11 h11 a12 h12 a13 h13 a14 h14 a15 h15 a16 h16 a17 h17 hc g b X n))
            (ix2 (⟨128 * n + a, by omega⟩ : Fin 512) d : S512x2048.Idx) = B (ix2 ⟨128 * n + a, by omega⟩ d) := by
          refine (View.read_writes_apply_of_forall_not_mem _ _ _ _ fun p hp hy => ?_).trans (congrFun hB _)
          have := (ih p hp).1 _ hy
          change 128 * n + (a : ℕ) < 128 * n at this
          omega
        have hv (d : Fin 2048) := (congrArg (a16.view.read (Elt Ideal) (a16.view.writes (Elt Ideal) X
          (pb_k0_t2 𝒱 c bd i a2 h2 a3 h3 a4 h4 a5 h5 a6 h6 a7 h7 a8 h8 a9 h9 a10 h10 a11 h11 a12 h12 a13 h13 a14 h14 a15 h15 a16 h16 a17 h17 hc g b X n))) (band_emb (inb := k0_off2_inb i ⟨n, hn⟩ hc) e0 e1 a d hn8)).trans (hread d)
        refine Eq.trans ?_ (congrArg (normed g b B) (band_emb (inb := k0_off2_inb i ⟨n, hn⟩ hc) e0 e1 a d hn8)).symm
        exact congrArg (fun s : Fin 2048 → EReal => Norm.layerNorm s (g (ix2 0 d)) (b (ix2 0 d)) d) (funext hv)
    · obtain ⟨h1, h2⟩ := ih p h
      exact ⟨fun y hy => lt_of_lt_of_le (h1 y hy) (by omega), h2⟩

/-- After the first loop the output block holds the scaled input, -/
theorem first_output (hc : k0_cond1 i = 1#1) (X : BufTy.Contents (Elt Ideal) a2.view.ty) (y : S512x2048.Idx) :
    View.canon (pb_k0_t1 𝒱 c bd i a2 h2 a3 h3 a4 h4 a5 h5 a6 h6 a7 h7 a8 h8 a9 h9 a10 h10 a11 h11 a12 h12 a13 h13 a14 h14 a15 h15 a16 h16 a17 h17 hc X k0_t1_loop.trips).1 y = scaled (a2.view.read (Elt Ideal) X) y :=
  View.canon_apply_of_pieces (scaled (a2.view.read (Elt Ideal) X)) _
    (first_pieces 𝒱 c bd i a2 h2 a3 h3 a4 h4 a5 h5 a6 h6 a7 h7 a8 h8 a9 h9 a10 h10 a11 h11 a12 h12 a13 h13 a14 h14 a15 h15 a16 h16 a17 h17 hc X _ rfl _ le_rfl).1 y
    (View.cover_of_tiledL (s := S512x2048) _ S128x2048.size (by sl_kernel_rfl) y)

/-- and the scratch the input. -/
theorem first_scratch (hc : k0_cond1 i = 1#1) (X : BufTy.Contents (Elt Ideal) a2.view.ty) (y : S512x2048.Idx) :
    View.canon (pb_k0_t1 𝒱 c bd i a2 h2 a3 h3 a4 h4 a5 h5 a6 h6 a7 h7 a8 h8 a9 h9 a10 h10 a11 h11 a12 h12 a13 h13 a14 h14 a15 h15 a16 h16 a17 h17 hc X k0_t1_loop.trips).2 y = a2.view.read (Elt Ideal) X y :=
  View.canon_apply_of_pieces (Val := Elt Ideal) (e := .bf16) (a2.view.read (Elt Ideal) X) _
    (first_pieces 𝒱 c bd i a2 h2 a3 h3 a4 h4 a5 h5 a6 h6 a7 h7 a8 h8 a9 h9 a10 h10 a11 h11 a12 h12 a13 h13 a14 h14 a15 h15 a16 h16 a17 h17 hc X _ rfl _ le_rfl).2 y
    (View.cover_of_tiledL (s := S512x2048) _ S128x2048.size (by sl_kernel_rfl) y)

/-- After the second loop the output block holds its rows normalised. -/
theorem second_output (hc : k0_cond2 i = 1#1) (g b : Vec Ideal S1x2048 .f32) (X : BufTy.Contents (Elt Ideal) a16.view.ty)
    (L : List (View.Piece (Elt Ideal) S512x2048 .f32)) (y : S512x2048.Idx) :
    View.canon (pb_k0_t2 𝒱 c bd i a2 h2 a3 h3 a4 h4 a5 h5 a6 h6 a7 h7 a8 h8 a9 h9 a10 h10 a11 h11 a12 h12 a13 h13 a14 h14 a15 h15 a16 h16 a17 h17 hc g b X k0_t2_loop.trips ++ L) y
      = normed g b (a16.view.read (Elt Ideal) X) y :=
  View.canon_append_of_pieces (normed g b (a16.view.read (Elt Ideal) X)) _ _
    (fun p hp => (second_pieces 𝒱 c bd i a2 h2 a3 h3 a4 h4 a5 h5 a6 h6 a7 h7 a8 h8 a9 h9 a10 h10 a11 h11 a12 h12 a13 h13 a14 h14 a15 h15 a16 h16 a17 h17 hc g b X _ rfl _ le_rfl p hp).2) y
    (View.cover_of_tiledL (s := S512x2048) _ S128x2048.size (by sl_kernel_rfl) y)

end
end Cert.MergeLoops
end
-- ==== Proof.MergeBlock.lean ====
module

public import proofs.«01_k».proof.Proof.MergeLoops

/-! What the merge kernel's output block and scratch hold after each of the three kinds of grid point. -/

@[expose] public section

set_option maxRecDepth 16384
noncomputable section
open Idealize.ShloMosaic Idealize.ShloMosaic.TcCoe Idealize.ShloMosaic.Tactic Idealize.SL.Sem

namespace Cert.MergeBlock
open Cert.MergeIdeal Cert.MergeIdeal.Gen Cert.MergeLoops

variable (m : (ℓ : Loc nD τ sig) → Buf (Elt Ideal) ℓ) (c : Dev nD)

/-- The rectangle that is the whole block takes an index to itself. -/
theorem whole_idx (inb) (j : S512x2048.Idx) : (Rect.unit (s := S512x2048) ![0, 0] S512x2048.size inb).toLoadRect.idx j = j := by
  funext a
  match a with
  | ⟨0, _⟩ => exact Fin.ext (show 0 + 1 * (j 0 : ℕ) = j 0 by omega)
  | ⟨1, _⟩ => exact Fin.ext (show 0 + 1 * (j 1 : ℕ) = j 1 by omega)

/-- A block written whole holds what was written. -/
theorem canon_whole (inb) (w : Vec Ideal S512x2048 .f32) (y : S512x2048.Idx) :
    View.canon (Val := Elt Ideal) (e := .f32) [⟨Rect.unit (s := S512x2048) ![0, 0] S512x2048.size inb, w⟩] y = w y := by
  refine View.canon_apply_of_pieces (Val := Elt Ideal) (e := .f32) w _ (fun p hp x => ?_) y
    (View.cover_of_tiledL (s := S512x2048) _ S512x2048.size (by sl_kernel_rfl) y)
  obtain rfl := List.mem_singleton.mp hp
  exact (congrArg w (whole_idx inb x)).symm

/-- At a block row's first point the scratch receives the input block, -/
theorem scratch_A (t : Fin cfg0.N) (h0 : t.1 % 8 = 0) (h1 : ¬ t.1 % 8 = 7) :
    (outsAt0 m c t.1 t.2).2 = iblk m c 0 t := by
  rw [outsAt0_A m c t h0 h1]
  funext y
  frame_out
  refine (first_scratch _ _ _ _ _ _ _ _ _ _ _ _ _ _ _ _ _ _ _ _ _ _ _ _ _ _ _ _ _ _ _ _ _ _ _ _ _ _ y).trans ?_
  rw [Memref.IsWhole.read_unread]

/-- and the output block the scaled input plus the first columns' part of the projection. -/
theorem out_A (t : Fin cfg0.N) (h0 : t.1 % 8 = 0) (h1 : ¬ t.1 % 8 = 7) :
    (outsAt0 m c t.1 t.2).1 = stepped (iblk m c 0 t) (iblk m c 7 t) (iblk m c 4 t) (iblk m c 5 t) (iblk m c 6 t) (iblk m c 1 t) (iblk m c 2 t) (iblk m c 3 t) (iblk m c 8 t) (iblk m c 9 t)
      (iblk m c 10 t) (scaled (iblk m c 0 t)) (iblk m c 11 t) := by
  rw [outsAt0_A m c t h0 h1]
  funext y
  frame_out
  have hs (L : List (View.Piece (Elt Ideal) S512x2048 .bf16)) (hL : ∀ y, View.canon L y = iblk m c 0 t y) (v : View sig .tc .vmem S512x2048 .bf16) :
      v.readCov L (Rect.unit ![0, 0] ![512, 2048] inb_S512x2048_S512x2048_0_0).toLoadRect = iblk m c 0 t := by
    rw [View.readCov_eq_canon']
    exact funext fun j => (congrArg (View.canon L) (whole_idx _ j)).trans (hL j)
  have ho (L : List (View.Piece (Elt Ideal) S512x2048 .f32)) (hL : ∀ y, View.canon L y = scaled (iblk m c 0 t) y) (v : View sig .tc .vmem S512x2048 .f32) :
      v.readCov L (Rect.unit ![0, 0] ![512, 2048] inb_S512x2048_S512x2048_0_0).toLoadRect = scaled (iblk m c 0 t) := by
    rw [View.readCov_eq_canon']
    exact funext fun j => (congrArg (View.canon L) (whole_idx _ j)).trans (hL j)
  refine congrFun (congrArg₂ (fun a b => stepped a (iblk m c 7 t) (iblk m c 4 t) (iblk m c 5 t) (iblk m c 6 t) (iblk m c 1 t) (iblk m c 2 t) (iblk m c 3 t) (iblk m c 8 t) (iblk m c 9 t)
      (iblk m c 10 t) b (iblk m c 11 t)) (hs _ (fun y => ?_) _) (ho _ (fun y => ?_) _)) y
  · refine (first_scratch _ _ _ _ _ _ _ _ _ _ _ _ _ _ _ _ _ _ _ _ _ _ _ _ _ _ _ _ _ _ _ _ _ _ _ _ _ _ y).trans ?_
    rw [Memref.IsWhole.read_unread]
  · refine (first_output _ _ _ _ _ _ _ _ _ _ _ _ _ _ _ _ _ _ _ _ _ _ _ _ _ _ _ _ _ _ _ _ _ _ _ _ _ _ y).trans ?_
    rw [Memref.IsWhole.read_unread]

/-- At a middle point the scratch stays as it was, -/
theorem scratch_B (t : Fin cfg0.N) (h0 : ¬ t.1 % 8 = 0) (h1 : ¬ t.1 % 8 = 7) :
    (outsAt0 m c t.1 t.2).2 = (outsAt0 m c (t.1 - 1) (Nat.lt_of_le_of_lt (Nat.sub_le _ _) t.isLt)).2 := by
  rw [outsAt0_B m c t h0 h1]
  rfl

/-- and the output block gains its columns' part of the projection. -/
theorem out_B (t : Fin cfg0.N) (h0 : ¬ t.1 % 8 = 0) (h1 : ¬ t.1 % 8 = 7) :
    (outsAt0 m c t.1 t.2).1 = stepped (outsAt0 m c (t.1 - 1) (Nat.lt_of_le_of_lt (Nat.sub_le _ _) t.isLt)).2 (iblk m c 7 t) (iblk m c 4 t) (iblk m c 5 t) (iblk m c 6 t) (iblk m c 1 t) (iblk m c 2 t) (iblk m c 3 t) (iblk m c 8 t) (iblk m c 9 t)
      (iblk m c 10 t) (outsAt0 m c (t.1 - 1) (Nat.lt_of_le_of_lt (Nat.sub_le _ _) t.isLt)).1 (iblk m c 11 t) := by
  obtain ⟨n, hn⟩ := t
  cases n with
  | zero => exact absurd rfl h0
  | succ n =>
    rw [outsAt0_B m c ⟨n + 1, hn⟩ h0 h1]
    funext y
    frame_out
    exact congrArg (fun s => stepped s _ _ _ _ _ _ _ _ _ _ _ _ y) (Memref.IsWhole.read_unread _ _)

/-- At a block row's last point the output block gains the last part and has its rows normalised. -/
theorem out_C (t : Fin cfg0.N) (h0 : ¬ t.1 % 8 = 0) (h1 : t.1 % 8 = 7) :
    (outsAt0 m c t.1 t.2).1 = normed (iblk m c 12 t) (iblk m c 13 t)
      (stepped (outsAt0 m c (t.1 - 1) (Nat.lt_of_le_of_lt (Nat.sub_le _ _) t.isLt)).2 (iblk m c 7 t) (iblk m c 4 t) (iblk m c 5 t) (iblk m c 6 t) (iblk m c 1 t) (iblk m c 2 t) (iblk m c 3 t) (iblk m c 8 t) (iblk m c 9 t)
      (iblk m c 10 t) (outsAt0 m c (t.1 - 1) (Nat.lt_of_le_of_lt (Nat.sub_le _ _) t.isLt)).1 (iblk m c 11 t)) := by
  obtain ⟨n, hn⟩ := t
  cases n with
  | zero => exact absurd rfl h0
  | succ n =>
    rw [outsAt0_C m c ⟨n + 1, hn⟩ h0 h1]
    funext y
    frame_out
    refine (second_output _ _ _ _ _ _ _ _ _ _ _ _ _ _ _ _ _ _ _ _ _ _ _ _ _ _ _ _ _ _ _ _ _ _ _ _ _ _ _ _ _ y).trans ?_
    refine congrArg (fun s => normed (iblk m c 12 ⟨n + 1, hn⟩) (iblk m c 13 ⟨n + 1, hn⟩) s y) ?_
    rw [View.read_writes_junk_eq_canon]
    refine Eq.trans ?_ (congrArg (fun s => stepped s (iblk m c 7 ⟨n + 1, hn⟩) (iblk m c 4 ⟨n + 1, hn⟩) (iblk m c 5 ⟨n + 1, hn⟩) (iblk m c 6 ⟨n + 1, hn⟩) (iblk m c 1 ⟨n + 1, hn⟩) (iblk m c 2 ⟨n + 1, hn⟩) (iblk m c 3 ⟨n + 1, hn⟩) (iblk m c 8 ⟨n + 1, hn⟩) (iblk m c 9 ⟨n + 1, hn⟩)
      (iblk m c 10 ⟨n + 1, hn⟩) (outsAt0 m c (n + 1 - 1) (Nat.lt_of_le_of_lt (Nat.sub_le _ _) hn)).1 (iblk m c 11 ⟨n + 1, hn⟩))
      (Memref.IsWhole.read_unread (Val := Elt Ideal) (m := scM0_0) (Memref.isWhole_whole _) (outsAt0 m c (n + 1 - 1) (Nat.lt_of_le_of_lt (Nat.sub_le _ _) hn)).2))
    funext z
    exact canon_whole _ _ z

end Cert.MergeBlock
end
-- ==== Proof.MergeReference.lean ====
module

public import proofs.«01_k».proof.Proof.Gen.MergeRefIdeal.Run
public import Idealize.ShloMosaic.Lib.Pipeline.ValueKit
public import proofs.«01_k».proof.Proof.Norm

/-! What the reference of the merge computes: three sigmoid gates, each times its branch's projection, summed, projected out, added to the scaled input
and normalised. -/

@[expose] public section

set_option maxRecDepth 16384
noncomputable section
open Idealize.ShloMosaic Idealize.ShloMosaic.TcCoe Idealize.ShloMosaic.Tactic Idealize.SL.Sem

namespace Cert.MergeReference
open Cert.MergeRefIdeal Cert.MergeRefIdeal.Gen

/-- The three gates side by side before the sigmoid. -/
def gates (X : FVec Ideal S16384x2048 .f32) (W : FVec Ideal S1x2048x9728 .f32) (b : FVec Ideal S1x6144 .f32) : FVec Ideal S16384x6144 .f32 :=
  addf (Host.dotGeneral dot_S16384x2048_S2048x6144_S16384x6144_1_0_0_1_n_n none X (extractStridedSlice S2048x6144 ![0, 3584] (shapeCast _ W shapeCasts_S1x2048x9728_S2048x9728) slices_S2048x9728_S2048x6144_0_3584)) (broadcastInDim S16384x6144 ![0, 1] bcast_S1x6144_S16384x6144_0_1 (broadcastInDim S1x6144 ![1] bcast_S6144_S1x6144_1 (shapeCast _ b shapeCasts_S1x6144_S6144)))

/-- The gates, one plane per branch. -/
def sigmoid (P : FVec Ideal S16384x6144 .f32) : FVec Ideal S16384x3x2048 .f32 :=
  shapeCast _ (Host.divf (broadcastInDim S16384x6144 ![] bcast_S_S16384x6144 (constant S_ .f32 0x3F800000#32)) (addf (broadcastInDim S16384x6144 ![] bcast_S_S16384x6144 (constant S_ .f32 0x3F800000#32)) (Host.exp (Host.negf P)))) shapeCasts_S16384x6144_S16384x3x2048

/-- The first branch through its gate. -/
def branch0 (S : FVec Ideal S16384x3x2048 .f32) (O : FVec Ideal S16384x1024 .bf16) (V : FVec Ideal S1x1024x2048 .f32) : FVec Ideal S16384x2048 .f32 :=
  mulf (shapeCast _ (extractStridedSlice S16384x1x2048 ![0, 0, 0] S slices_S16384x3x2048_S16384x1x2048_0_0_0) shapeCasts_S16384x1x2048_S16384x2048) (Host.dotGeneral dot_S16384x1024_S1024x2048_S16384x2048_1_0_0_1_n_n none (extf .f32 O bitsLt_bf16_f32) (shapeCast _ V shapeCasts_S1x1024x2048_S1024x2048))

/-- The second branch through its gate. -/
def branch1 (S : FVec Ideal S16384x3x2048 .f32) (O : FVec Ideal S16384x512 .bf16) (V : FVec Ideal S1x512x2048 .f32) : FVec Ideal S16384x2048 .f32 :=
  mulf (shapeCast _ (extractStridedSlice S16384x1x2048 ![0, 1, 0] S slices_S16384x3x2048_S16384x1x2048_0_1_0) shapeCasts_S16384x1x2048_S16384x2048) (Host.dotGeneral dot_S16384x512_S512x2048_S16384x2048_1_0_0_1_n_n none (extf .f32 O bitsLt_bf16_f32) (shapeCast _ V shapeCasts_S1x512x2048_S512x2048))

/-- The third branch through its gate. -/
def branch2 (S : FVec Ideal S16384x3x2048 .f32) (O : FVec Ideal S16384x512 .bf16) (V : FVec Ideal S1x512x2048 .f32) : FVec Ideal S16384x2048 .f32 :=
  mulf (shapeCast _ (extractStridedSlice S16384x1x2048 ![0, 2, 0] S slices_S16384x3x2048_S16384x1x2048_0_2_0) shapeCasts_S16384x1x2048_S16384x2048) (Host.dotGeneral dot_S16384x512_S512x2048_S16384x2048_1_0_0_1_n_n none (extf .f32 O bitsLt_bf16_f32) (shapeCast _ V shapeCasts_S1x512x2048_S512x2048))

/-- The scaled input plus the merged branches projected out. -/
def summed (X Y : FVec Ideal S16384x2048 .f32) (P : FVec Ideal S1x2048x2048 .f32) : FVec Ideal S16384x2048 .f32 :=
  addf (mulf (broadcastInDim S16384x2048 ![] bcast_S_S16384x2048 (constant S_ .f32 0x3F9837F0#32)) X) (Host.dotGeneral dot_S16384x2048_S2048x2048_S16384x2048_1_0_0_1_n_n none Y (shapeCast _ P shapeCasts_S1x2048x2048_S2048x2048))

/-- Each entry less the mean of its row. -/
def centred (S : FVec Ideal S16384x2048 .f32) : FVec Ideal S16384x2048 .f32 :=
  subf S (broadcastInDim S16384x2048 ![0, 1] bcast_S16384x1_S16384x2048_0_1 (Host.divf (broadcastInDim S16384x1 ![0] bcast_S16384_S16384x1_0 (Host.reduceAdd S (constant S_ .f32 0x00000000#32) reducesTo_S16384x2048_S16384_d1 h_S_)) (broadcastInDim S16384x1 ![] bcast_S_S16384x1 (constant S_ .f32 0x45000000#32))))

/-- Centred rows brought to unit variance, then scaled and shifted column by column. -/
def scaled (T : FVec Ideal S16384x2048 .f32) (g b : FVec Ideal S1x2048 .f32) : FVec Ideal S16384x2048 .f32 :=
  addf (mulf (mulf T (broadcastInDim S16384x2048 ![0, 1] bcast_S16384x1_S16384x2048_0_1 (Host.rsqrt (addf (Host.divf (broadcastInDim S16384x1 ![0] bcast_S16384_S16384x1_0 (Host.reduceAdd (mulf T T) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (shapeCast _ g shapeCasts_S1x2048_S2048)))) (broadcastInDim S16384x2048 ![0, 1] bcast_S1x2048_S16384x2048_0_1 (broadcastInDim S1x2048 ![1] bcast_S2048_S1x2048_1 (shapeCast _ b shapeCasts_S1x2048_S2048)))

/-- The three branches through their gates, summed. -/
def merged (S : FVec Ideal S16384x3x2048 .f32) (O0 : FVec Ideal S16384x1024 .bf16) (O1 O2 : FVec Ideal S16384x512 .bf16)
    (V0 : FVec Ideal S1x1024x2048 .f32) (V1 V2 : FVec Ideal S1x512x2048 .f32) : FVec Ideal S16384x2048 .f32 :=
  addf (addf (branch0 S O0 V0) (branch1 S O1 V1)) (branch2 S O2 V2)

/-- The reference's result as a function of its arguments. -/
def result (X : FVec Ideal S16384x2048 .f32) (O0 : FVec Ideal S16384x1024 .bf16) (O1 O2 : FVec Ideal S16384x512 .bf16)
    (W : FVec Ideal S1x2048x9728 .f32) (bg : FVec Ideal S1x6144 .f32) (V0 : FVec Ideal S1x1024x2048 .f32) (V1 V2 : FVec Ideal S1x512x2048 .f32)
    (P : FVec Ideal S1x2048x2048 .f32) (g b : FVec Ideal S1x2048 .f32) : FVec Ideal S16384x2048 .f32 :=
  scaled (centred (summed X (merged (sigmoid (gates X W bg)) O0 O1 O2 V0 V1 V2) P)) g b

/-- The run's result is the composition of the stages above. -/
theorem result_eq (m : (ℓ : Loc nD τ sig) → Buf (Elt Ideal) ℓ) (c : Dev nD) :
    Cert.MergeRefIdeal.Value.res_main_v64 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

/-- An entry of the gates before the sigmoid: a row of the input against a gate column, plus the bias. -/
theorem gates_at (X : FVec Ideal S16384x2048 .f32) (W : FVec Ideal S1x2048x9728 .f32) (b : FVec Ideal S1x6144 .f32) (r : Fin 16384) (n : Fin 6144) :
    gates X W b (ix2 r n) = (∑ e : Fin 2048, X (ix2 r e) * W (ix3 0 e (⟨3584 + n, by omega⟩ : Fin 9728))) + b (ix2 0 n) := by
  pointwise [gates]

/-- An entry of the gates. -/
theorem sigmoid_at (P : FVec Ideal S16384x6144 .f32) (r : Fin 16384) (k : Fin 3) (n : Fin 2048) :
    sigmoid P (ix3 r k n) = Ideal.logistic (P (ix2 r (⟨k * 2048 + n, by omega⟩ : Fin 6144))) := by
  pointwise [sigmoid]
  rfl

/-- An entry of the first branch, gated. -/
theorem branch0_at (S : FVec Ideal S16384x3x2048 .f32) (O : FVec Ideal S16384x1024 .bf16) (V : FVec Ideal S1x1024x2048 .f32) (r : Fin 16384) (n : Fin 2048) :
    branch0 S O V (ix2 r n) = S (ix3 r 0 n) * ∑ e : Fin 1024, O (ix2 r e) * V (ix3 0 e n) := by
  pointwise [branch0]

/-- An entry of the second branch, gated. -/
theorem branch1_at (S : FVec Ideal S16384x3x2048 .f32) (O : FVec Ideal S16384x512 .bf16) (V : FVec Ideal S1x512x2048 .f32) (r : Fin 16384) (n : Fin 2048) :
    branch1 S O V (ix2 r n) = S (ix3 r 1 n) * ∑ e : Fin 512, O (ix2 r e) * V (ix3 0 e n) := by
  pointwise [branch1]

/-- An entry of the third branch, gated. -/
theorem branch2_at (S : FVec Ideal S16384x3x2048 .f32) (O : FVec Ideal S16384x512 .bf16) (V : FVec Ideal S1x512x2048 .f32) (r : Fin 16384) (n : Fin 2048) :
    branch2 S O V (ix2 r n) = S (ix3 r 2 n) * ∑ e : Fin 512, O (ix2 r e) * V (ix3 0 e n) := by
  pointwise [branch2]

/-- An entry before the layer norm: the residual plus the product with the output weights. -/
theorem summed_at (X Y : FVec Ideal S16384x2048 .f32) (P : FVec Ideal S1x2048x2048 .f32) (r : Fin 16384) (d : Fin 2048) :
    summed X Y P (ix2 r d) = Ideal.ofBits .f32 0x3F9837F0#32 * X (ix2 r d) + ∑ n : Fin 2048, Y (ix2 r n) * P (ix3 0 n d) := by
  pointwise [summed]

/-- An entry less its row's mean. -/
theorem centred_at (S : FVec Ideal S16384x2048 .f32) (r : Fin 16384) (d : Fin 2048) :
    centred S (ix2 r d) = Norm.centre (fun d => S (ix2 r d)) d := by
  pointwise [centred]
  rfl

/-- A centred entry over its row's deviation, times the gain, plus the shift. -/
theorem scaled_at (T : FVec Ideal S16384x2048 .f32) (g b : FVec Ideal S1x2048 .f32) (r : Fin 16384) (d : Fin 2048) :
    scaled T g b (ix2 r d) = Norm.scale (fun d => T (ix2 r d)) (g (ix2 0 d)) (b (ix2 0 d)) d := by
  pointwise [scaled]
  rfl

/-- The gate of branch `k` at a row and a column. -/
def gate (X : FVec Ideal S16384x2048 .f32) (W : FVec Ideal S1x2048x9728 .f32) (bg : FVec Ideal S1x6144 .f32) (k : Fin 3) (r : Fin 16384) (n : Fin 2048) :
    EReal :=
  Ideal.logistic ((∑ e : Fin 2048, X (ix2 r e) * W (ix3 0 e (⟨3584 + (k * 2048 + n), by omega⟩ : Fin 9728)))
    + bg (ix2 0 (⟨k * 2048 + n, by omega⟩ : Fin 6144)))

/-- The merged branches at a row and a column. -/
def mix (X : FVec Ideal S16384x2048 .f32) (O0 : FVec Ideal S16384x1024 .bf16) (O1 O2 : FVec Ideal S16384x512 .bf16)
    (W : FVec Ideal S1x2048x9728 .f32) (bg : FVec Ideal S1x6144 .f32) (V0 : FVec Ideal S1x1024x2048 .f32) (V1 V2 : FVec Ideal S1x512x2048 .f32)
    (r : Fin 16384) (n : Fin 2048) : EReal :=
  gate X W bg 0 r n * (∑ e : Fin 1024, O0 (ix2 r e) * V0 (ix3 0 e n)) + gate X W bg 1 r n * (∑ e : Fin 512, O1 (ix2 r e) * V1 (ix3 0 e n))
    + gate X W bg 2 r n * (∑ e : Fin 512, O2 (ix2 r e) * V2 (ix3 0 e n))

/-- The reference normalises each row of the scaled input plus the projected mix. -/
theorem result_at (X : FVec Ideal S16384x2048 .f32) (O0 : FVec Ideal S16384x1024 .bf16) (O1 O2 : FVec Ideal S16384x512 .bf16)
    (W : FVec Ideal S1x2048x9728 .f32) (bg : FVec Ideal S1x6144 .f32) (V0 : FVec Ideal S1x1024x2048 .f32) (V1 V2 : FVec Ideal S1x512x2048 .f32)
    (P : FVec Ideal S1x2048x2048 .f32) (g b : FVec Ideal S1x2048 .f32) (r : Fin 16384) (d : Fin 2048) :
    result X O0 O1 O2 W bg V0 V1 V2 P g b (ix2 r d)
      = Norm.layerNorm (fun d => Ideal.ofBits .f32 0x3F9837F0#32 * X (ix2 r d) + ∑ n : Fin 2048, mix X O0 O1 O2 W bg V0 V1 V2 r n * P (ix3 0 n d))
          (g (ix2 0 d)) (b (ix2 0 d)) d := by
  have hmix (n : Fin 2048) : merged (sigmoid (gates X W bg)) O0 O1 O2 V0 V1 V2 (ix2 r n) = mix X O0 O1 O2 W bg V0 V1 V2 r n := by
    change branch0 _ O0 V0 (ix2 r n) + branch1 _ O1 V1 (ix2 r n) + branch2 _ O2 V2 (ix2 r n) = _
    rw [branch0_at, branch1_at, branch2_at, sigmoid_at, sigmoid_at, sigmoid_at, gates_at, gates_at, gates_at]
    rfl
  unfold result
  rw [scaled_at]
  simp only [centred_at, summed_at, hmix]
  rfl

end Cert.MergeReference
end
-- ==== Proof.MergeValue.lean ====
module

public import proofs.«01_k».proof.Proof.MergeBlock
public import proofs.«01_k».proof.Proof.MergeReference

/-! The merge kernel's result array is the reference's: the blocks it reads, the running sum over the blocks of columns, the array. -/

@[expose] public section

set_option maxRecDepth 16384
noncomputable section
open Idealize.ShloMosaic Idealize.ShloMosaic.TcCoe Idealize.ShloMosaic.Tactic Idealize.SL.Sem
open Idealize.ShloMosaic.Pipeline (Dat)

namespace Cert.MergeValue
open Cert.MergeIdeal Cert.MergeIdeal.Gen Cert.MergeLoops

variable (m : (ℓ : Loc nD τ sig) → Buf (Elt Ideal) ℓ) (c : Dev nD)

/-- The blocks of rows a grid point takes: `t / 8` is its block of rows. -/
theorem idx_rows : ∀ t : Fin cfg0.N, win0_0.index t = ![t.val / 8, 0] ∧ win0_1.index t = ![t.val / 8, 0] ∧ win0_2.index t = ![t.val / 8, 0]
    ∧ win0_3.index t = ![t.val / 8, 0] ∧ win0_12.index t = ![0, 0] ∧ win0_13.index t = ![0, 0] ∧ win0_14.index t = ![t.val / 8, 0] :=
  (by decide +kernel : ∀ t : Fin grid0.N, _)

/-- The blocks of the weights a grid point takes: `t % 8` is its block of columns. -/
theorem idx_cols : ∀ t : Fin cfg0.N, win0_4.index t = ![0, 14 + t.val % 8] ∧ win0_5.index t = ![0, 22 + t.val % 8] ∧ win0_6.index t = ![0, 30 + t.val % 8]
    ∧ win0_7.index t = ![0, t.val % 8] ∧ win0_8.index t = ![0, t.val % 8] ∧ win0_9.index t = ![0, t.val % 8] ∧ win0_10.index t = ![0, t.val % 8]
    ∧ win0_11.index t = ![t.val % 8, 0] :=
  (by decide +kernel : ∀ t : Fin grid0.N, _)

/-- The layer's input. -/
abbrev X : FVec Ideal S16384x2048 .f32 := m ((c.tc : Thread nD τ).loc main_arg0)
/-- The first branch. -/
abbrev O0 : FVec Ideal S16384x1024 .bf16 := m ((c.tc : Thread nD τ).loc main_arg1)
/-- The second branch. -/
abbrev O1 : FVec Ideal S16384x512 .bf16 := m ((c.tc : Thread nD τ).loc main_arg2)
/-- The third branch. -/
abbrev O2 : FVec Ideal S16384x512 .bf16 := m ((c.tc : Thread nD τ).loc main_arg3)
/-- The input projection's weights; the gates' columns come last. -/
abbrev W : FVec Ideal S1x2048x9728 .f32 := m ((c.tc : Thread nD τ).loc main_arg4)
/-- The gates' biases. -/
abbrev bg : FVec Ideal S1x6144 .f32 := m ((c.tc : Thread nD τ).loc main_arg5)
/-- The first branch's weights. -/
abbrev V0 : FVec Ideal S1x1024x2048 .f32 := m ((c.tc : Thread nD τ).loc main_arg6)
/-- The second branch's weights. -/
abbrev V1 : FVec Ideal S1x512x2048 .f32 := m ((c.tc : Thread nD τ).loc main_arg7)
/-- The third branch's weights. -/
abbrev V2 : FVec Ideal S1x512x2048 .f32 := m ((c.tc : Thread nD τ).loc main_arg8)
/-- The output projection's weights. -/
abbrev P : FVec Ideal S1x2048x2048 .f32 := m ((c.tc : Thread nD τ).loc main_arg9)
/-- The normalisation's scale. -/
abbrev G : FVec Ideal S1x2048 .f32 := m ((c.tc : Thread nD τ).loc main_arg10)
/-- The normalisation's shift. -/
abbrev B : FVec Ideal S1x2048 .f32 := m ((c.tc : Thread nD τ).loc main_arg11)

/-- A grid point's block of the input. -/
abbrev xb (t : Fin cfg0.N) : Vec Ideal S512x2048 .f32 := iblk m c 0 t
/-- A grid point's block of the first branch. -/
abbrev ob0 (t : Fin cfg0.N) : Vec Ideal S512x1024 .bf16 := iblk m c 1 t
/-- A grid point's block of the second branch. -/
abbrev ob1 (t : Fin cfg0.N) : Vec Ideal S512x512 .bf16 := iblk m c 2 t
/-- A grid point's block of the third branch. -/
abbrev ob2 (t : Fin cfg0.N) : Vec Ideal S512x512 .bf16 := iblk m c 3 t
/-- A grid point's block of the first gate's weights. -/
abbrev wb0 (t : Fin cfg0.N) : Vec Ideal S2048x256 .bf16 := iblk m c 4 t
/-- A grid point's block of the second gate's weights. -/
abbrev wb1 (t : Fin cfg0.N) : Vec Ideal S2048x256 .bf16 := iblk m c 5 t
/-- A grid point's block of the third gate's weights. -/
abbrev wb2 (t : Fin cfg0.N) : Vec Ideal S2048x256 .bf16 := iblk m c 6 t
/-- A grid point's block of the gates' biases. -/
abbrev bgb (t : Fin cfg0.N) : Vec Ideal S3x256 .f32 := iblk m c 7 t
/-- A grid point's block of the first branch's weights. -/
abbrev vb0 (t : Fin cfg0.N) : Vec Ideal S1024x256 .bf16 := iblk m c 8 t
/-- A grid point's block of the second branch's weights. -/
abbrev vb1 (t : Fin cfg0.N) : Vec Ideal S512x256 .bf16 := iblk m c 9 t
/-- A grid point's block of the third branch's weights. -/
abbrev vb2 (t : Fin cfg0.N) : Vec Ideal S512x256 .bf16 := iblk m c 10 t
/-- A grid point's block of the output projection's weights. -/
abbrev pb (t : Fin cfg0.N) : Vec Ideal S256x2048 .bf16 := iblk m c 11 t
/-- The scale as a grid point reads it. -/
abbrev sb (t : Fin cfg0.N) : Vec Ideal S1x2048 .f32 := iblk m c 12 t
/-- The shift as a grid point reads it. -/
abbrev bb (t : Fin cfg0.N) : Vec Ideal S1x2048 .f32 := iblk m c 13 t

/-- The block of the input at grid point `t` holds the rows from `t / 8 * 512`. -/
theorem x_at (t : Fin cfg0.N) (r : Fin 512) (e : Fin 2048) (R : Fin 16384) (hR : (R : ℕ) = t.val / 8 * 512 + r) :
    xb m c t (ix2 r e) = X m c (ix2 R e) := by
  blk_point [iblk, V, idx_rows t]

/-- The block of the first branch at grid point `t` holds the rows from `t / 8 * 512`. -/
theorem o0_at (t : Fin cfg0.N) (r : Fin 512) (e : Fin 1024) (R : Fin 16384) (hR : (R : ℕ) = t.val / 8 * 512 + r) :
    ob0 m c t (ix2 r e) = O0 m c (ix2 R e) := by
  blk_point [iblk, V, idx_rows t]

/-- The block of the second branch at grid point `t` holds the rows from `t / 8 * 512`. -/
theorem o1_at (t : Fin cfg0.N) (r e : Fin 512) (R : Fin 16384) (hR : (R : ℕ) = t.val / 8 * 512 + r) :
    ob1 m c t (ix2 r e) = O1 m c (ix2 R e) := by
  blk_point [iblk, V, idx_rows t]

/-- The block of the third branch at grid point `t` holds the rows from `t / 8 * 512`. -/
theorem o2_at (t : Fin cfg0.N) (r e : Fin 512) (R : Fin 16384) (hR : (R : ℕ) = t.val / 8 * 512 + r) :
    ob2 m c t (ix2 r e) = O2 m c (ix2 R e) := by
  blk_point [iblk, V, idx_rows t]

/-- The first gate's weights at grid point `t` hold the columns from `(14 + t % 8) * 256`. -/
theorem w0_at (t : Fin cfg0.N) (e : Fin 2048) (k : Fin 256) (n : Fin 9728) (hn : (n : ℕ) = (14 + t.val % 8) * 256 + k) :
    wb0 m c t (ix2 e k) = W m c (ix3 0 e n) := by
  blk_point [iblk, V, idx_cols t]

/-- The second gate's weights at grid point `t` hold the columns from `(22 + t % 8) * 256`. -/
theorem w1_at (t : Fin cfg0.N) (e : Fin 2048) (k : Fin 256) (n : Fin 9728) (hn : (n : ℕ) = (22 + t.val % 8) * 256 + k) :
    wb1 m c t (ix2 e k) = W m c (ix3 0 e n) := by
  blk_point [iblk, V, idx_cols t]

/-- The third gate's weights at grid point `t` hold the columns from `(30 + t % 8) * 256`. -/
theorem w2_at (t : Fin cfg0.N) (e : Fin 2048) (k : Fin 256) (n : Fin 9728) (hn : (n : ℕ) = (30 + t.val % 8) * 256 + k) :
    wb2 m c t (ix2 e k) = W m c (ix3 0 e n) := by
  blk_point [iblk, V, idx_cols t]

/-- The gates' bias at grid point `t` holds, of each gate, the columns from `t % 8 * 256`. -/
theorem bias_at (t : Fin cfg0.N) (j : Fin 3) (k : Fin 256) (n : Fin 6144) (hn : (n : ℕ) = j * 2048 + (t.val % 8 * 256 + k)) :
    bgb m c t (ix2 j k) = bg m c (ix2 0 n) := by
  blk_point [iblk, V, idx_cols t]

/-- The first branch's projection at grid point `t` holds the columns from `t % 8 * 256`. -/
theorem v0_at (t : Fin cfg0.N) (e : Fin 1024) (k : Fin 256) (n : Fin 2048) (hn : (n : ℕ) = t.val % 8 * 256 + k) :
    vb0 m c t (ix2 e k) = V0 m c (ix3 0 e n) := by
  blk_point [iblk, V, idx_cols t]

/-- The second branch's projection at grid point `t` holds the columns from `t % 8 * 256`. -/
theorem v1_at (t : Fin cfg0.N) (e : Fin 512) (k : Fin 256) (n : Fin 2048) (hn : (n : ℕ) = t.val % 8 * 256 + k) :
    vb1 m c t (ix2 e k) = V1 m c (ix3 0 e n) := by
  blk_point [iblk, V, idx_cols t]

/-- The third branch's projection at grid point `t` holds the columns from `t % 8 * 256`. -/
theorem v2_at (t : Fin cfg0.N) (e : Fin 512) (k : Fin 256) (n : Fin 2048) (hn : (n : ℕ) = t.val % 8 * 256 + k) :
    vb2 m c t (ix2 e k) = V2 m c (ix3 0 e n) := by
  blk_point [iblk, V, idx_cols t]

/-- The output weights at grid point `t` hold the rows from `t % 8 * 256`. -/
theorem p_at (t : Fin cfg0.N) (k : Fin 256) (d : Fin 2048) (n : Fin 2048) (hn : (n : ℕ) = t.val % 8 * 256 + k) :
    pb m c t (ix2 k d) = P m c (ix3 0 n d) := by
  blk_point [iblk, V, idx_cols t]

/-- Every grid point sees the whole gain. -/
theorem scale_at (t : Fin cfg0.N) (d : Fin 2048) : sb m c t (ix2 0 d) = G m c (ix2 0 d) := by
  blk_point [iblk, V, idx_rows t]

/-- Every grid point sees the whole shift. -/
theorem shift_at (t : Fin cfg0.N) (d : Fin 2048) : bb m c t (ix2 0 d) = B m c (ix2 0 d) := by
  blk_point [iblk, V, idx_rows t]

/-- The merged branches at a row and a column of the arrays. -/
def mix (R : Fin 16384) (n : Fin 2048) : EReal :=
  MergeReference.mix (X m c) (O0 m c) (O1 m c) (O2 m c) (W m c) (bg m c) (V0 m c) (V1 m c) (V2 m c) R n

/-- The terms of one block of columns. -/
def chunk (R : Fin 16384) (d : Fin 2048) (s : Fin 8) : EReal :=
  ∑ k : Fin 256, mix m c R ⟨s * 256 + k, by omega⟩ * P m c (ix3 0 ⟨s * 256 + k, by omega⟩ d)

/-- A branch through its gate, read out of blocks. -/
theorem gated_eq (t : Fin cfg0.N) (j : Fin 3) (xs : Vec Ideal S512x2048 .bf16) (w : Vec Ideal S2048x256 .bf16) {n : ℕ} (o v o' v' : Fin n → EReal)
    (r : Fin 512) (k : Fin 256) (R : Fin 16384) (N : Fin 2048) (hN : (N : ℕ) = t.val % 8 * 256 + k)
    (hx : ∀ e, xs (ix2 r e) = X m c (ix2 R e)) (hw : ∀ e, w (ix2 e k) = W m c (ix3 0 e ⟨3584 + (j * 2048 + N), by omega⟩))
    (ho : ∀ e, o e = o' e) (hv : ∀ e, v e = v' e) :
    gatedCol xs w (bgb m c t (ix2 j k)) o v r k = MergeReference.gate (X m c) (W m c) (bg m c) j R N * ∑ e, o' e * v' e := by
  unfold gatedCol MergeReference.gate
  rw [bias_at m c t j k ⟨j * 2048 + N, by omega⟩ (by simp only; omega)]
  simp only [hx, hw, ho, hv]

/-- A grid point's block of the merged branches. -/
theorem mix_at (t : Fin cfg0.N) (xs : Vec Ideal S512x2048 .bf16) (r : Fin 512) (k : Fin 256) (R : Fin 16384) (N : Fin 2048)
    (hR : (R : ℕ) = t.val / 8 * 512 + r) (hN : (N : ℕ) = t.val % 8 * 256 + k) (hx : ∀ e, xs (ix2 r e) = X m c (ix2 R e)) :
    blockMix xs (bgb m c t) (wb0 m c t) (wb1 m c t) (wb2 m c t) (ob0 m c t) (ob1 m c t) (ob2 m c t) (vb0 m c t) (vb1 m c t) (vb2 m c t) r k
      = mix m c R N := by
  unfold blockMix mix MergeReference.mix
  rw [gated_eq m c t 0 xs (wb0 m c t) _ _ _ _ r k R N hN hx (fun e => w0_at m c t e k _ (by simp only [Fin.val_zero]; omega))
      (fun e => o0_at m c t r e R hR) (fun e => v0_at m c t e k N hN),
    gated_eq m c t 1 xs (wb1 m c t) _ _ _ _ r k R N hN hx (fun e => w1_at m c t e k _ (by simp only [Fin.val_one]; omega))
      (fun e => o1_at m c t r e R hR) (fun e => v1_at m c t e k N hN),
    gated_eq m c t 2 xs (wb2 m c t) _ _ _ _ r k R N hN hx (fun e => w2_at m c t e k _ (by simp only [Fin.val_two]; omega))
      (fun e => o2_at m c t r e R hR) (fun e => v2_at m c t e k N hN)]

/-- One grid point adds its columns' terms to the running block. -/
theorem step (t : Fin cfg0.N) (xs : Vec Ideal S512x2048 .bf16) (acc : Vec Ideal S512x2048 .f32) (r : Fin 512) (d : Fin 2048) (R : Fin 16384)
    (hR : (R : ℕ) = t.val / 8 * 512 + r) (hx : ∀ e, xs (ix2 r e) = X m c (ix2 R e)) :
    stepped xs (bgb m c t) (wb0 m c t) (wb1 m c t) (wb2 m c t) (ob0 m c t) (ob1 m c t) (ob2 m c t) (vb0 m c t) (vb1 m c t) (vb2 m c t) acc (pb m c t)
      (ix2 r d) = acc (ix2 r d) + chunk m c R d ⟨t.val % 8, by omega⟩ := by
  rw [stepped_at]
  refine congrArg (acc (ix2 r d) + ·) (Finset.sum_congr rfl fun k _ => ?_)
  rw [mix_at m c t xs r k R ⟨t.val % 8 * 256 + k, by omega⟩ hR rfl hx, p_at m c t k d ⟨t.val % 8 * 256 + k, by omega⟩ rfl]

/-- Before a block of rows' last point the scratch holds its input, and the output block the scaled input plus the terms of the columns so far. -/
theorem running (q : ℕ) (hq : q < 32) : ∀ (j : ℕ) (hj : j < 7) (hn : 8 * q + j < cfg0.N) (r : Fin 512),
    (∀ e, (outsAt0 m c (8 * q + j) hn).2 (ix2 r e) = X m c (ix2 ⟨q * 512 + r, by omega⟩ e))
    ∧ ∀ d, (outsAt0 m c (8 * q + j) hn).1 (ix2 r d) = Ideal.ofBits .f32 0x3F9837F0#32 * X m c (ix2 ⟨q * 512 + r, by omega⟩ d)
      + ∑ s : Fin (j + 1), chunk m c ⟨q * 512 + r, by omega⟩ d ⟨s, by omega⟩
  | 0, hj, hn, r => by
    have h0 : (⟨8 * q + 0, hn⟩ : Fin cfg0.N).1 % 8 = 0 := by simp only; omega
    have h1 : ¬ (⟨8 * q + 0, hn⟩ : Fin cfg0.N).1 % 8 = 7 := by simp only; omega
    have hx (e : Fin 2048) : xb m c ⟨8 * q + 0, hn⟩ (ix2 r e) = X m c (ix2 ⟨q * 512 + r, by omega⟩ e) :=
      x_at m c _ r e _ (by simp only; omega)
    refine ⟨fun e => ?_, fun d => ?_⟩
    · rw [MergeBlock.scratch_A m c ⟨8 * q + 0, hn⟩ h0 h1]
      exact hx e
    · rw [MergeBlock.out_A m c ⟨8 * q + 0, hn⟩ h0 h1]
      refine (step m c ⟨8 * q + 0, hn⟩ (xb m c _) (scaled (xb m c _)) r d ⟨q * 512 + r, by omega⟩ (by simp only; omega) hx).trans ?_
      rw [Fin.sum_univ_one]
      refine congrArg₂ (· + ·) (congrArg (Ideal.ofBits .f32 0x3F9837F0#32 * ·) (hx d)) (congrArg (chunk m c _ d) (Fin.ext h0))
  | j + 1, hj, hn, r => by
    obtain ⟨hs, ho⟩ := running q hq j (by omega) (by omega) r
    have h0 : ¬ (⟨8 * q + (j + 1), hn⟩ : Fin cfg0.N).1 % 8 = 0 := by simp only; omega
    have h1 : ¬ (⟨8 * q + (j + 1), hn⟩ : Fin cfg0.N).1 % 8 = 7 := by simp only; omega
    refine ⟨fun e => ?_, fun d => ?_⟩
    · rw [MergeBlock.scratch_B m c ⟨8 * q + (j + 1), hn⟩ h0 h1]
      exact hs e
    · rw [MergeBlock.out_B m c ⟨8 * q + (j + 1), hn⟩ h0 h1]
      refine (step m c ⟨8 * q + (j + 1), hn⟩ _ _ r d ⟨q * 512 + r, by omega⟩ (by simp only; omega) hs).trans ?_
      rw [Fin.sum_univ_castSucc]
      refine Eq.trans ?_ (add_assoc _ _ _)
      exact congrArg₂ (· + ·) (ho d) (congrArg (chunk m c _ d) (Fin.ext (by simp only [Fin.val_last]; omega)))

/-- At its last point the output block holds the reference's rows. -/
theorem last (t : Fin cfg0.N) (h1 : t.1 % 8 = 7) (r : Fin 512) (d : Fin 2048) (R : Fin 16384) (hR : (R : ℕ) = t.val / 8 * 512 + r) :
    (outsAt0 m c t.1 t.2).1 (ix2 r d) = MergeReference.result (X m c) (O0 m c) (O1 m c) (O2 m c) (W m c) (bg m c) (V0 m c) (V1 m c) (V2 m c) (P m c)
      (G m c) (B m c) (ix2 R d) := by
  obtain ⟨n, hn⟩ := t
  obtain ⟨q, rfl⟩ : ∃ q, n = 8 * q + 7 := ⟨n / 8, by simp only at h1; omega⟩
  have hN : 8 * q + 7 < 256 := lt_of_lt_of_eq hn N_0
  have hlt : q * 512 + r < 16384 := by omega
  obtain rfl : R = ⟨q * 512 + r, hlt⟩ := Fin.ext (by simp only at hR ⊢; omega)
  obtain ⟨hs, ho⟩ := running m c q (by omega) 6 (by omega) (Nat.lt_of_succ_lt hn) r
  rw [MergeBlock.out_C m c ⟨8 * q + 7, hn⟩ (by simp only; omega) h1, MergeReference.result_at]
  have hrow : ∀ d, stepped (outsAt0 m c (8 * q + 6) (Nat.lt_of_succ_lt hn)).2 (bgb m c ⟨8 * q + 7, hn⟩) (wb0 m c ⟨8 * q + 7, hn⟩)
      (wb1 m c ⟨8 * q + 7, hn⟩) (wb2 m c ⟨8 * q + 7, hn⟩) (ob0 m c ⟨8 * q + 7, hn⟩) (ob1 m c ⟨8 * q + 7, hn⟩) (ob2 m c ⟨8 * q + 7, hn⟩)
      (vb0 m c ⟨8 * q + 7, hn⟩) (vb1 m c ⟨8 * q + 7, hn⟩) (vb2 m c ⟨8 * q + 7, hn⟩) (outsAt0 m c (8 * q + 6) (Nat.lt_of_succ_lt hn)).1
      (pb m c ⟨8 * q + 7, hn⟩) (ix2 r d)
      = Ideal.ofBits .f32 0x3F9837F0#32 * X m c (ix2 ⟨q * 512 + r, hlt⟩ d)
        + ∑ n : Fin 2048, mix m c ⟨q * 512 + r, hlt⟩ n * P m c (ix3 0 n d) := fun d => by
    refine (step m c ⟨8 * q + 7, hn⟩ _ _ r d ⟨q * 512 + r, hlt⟩ hR hs).trans ?_
    rw [ho d, add_assoc]
    refine congrArg (Ideal.ofBits .f32 0x3F9837F0#32 * X m c (ix2 ⟨q * 512 + r, hlt⟩ d) + ·) ?_
    have e : chunk m c ⟨q * 512 + r, hlt⟩ d ⟨(8 * q + 7) % 8, by omega⟩ = chunk m c ⟨q * 512 + r, hlt⟩ d (Fin.last 7) :=
      congrArg (chunk m c _ d) (Fin.ext h1)
    refine (congrArg (_ + ·) e).trans ((Fin.sum_univ_castSucc (n := 7) fun s => chunk m c ⟨q * 512 + r, hlt⟩ d s).symm.trans ?_)
    unfold chunk
    exact Fin.sum_mul_add_congr fun s k hl => rfl
  refine (congrArg (fun s : Fin 2048 → EReal => Norm.layerNorm s (sb m c ⟨8 * q + 7, hn⟩ (ix2 0 d)) (bb m c ⟨8 * q + 7, hn⟩ (ix2 0 d)) d) (funext hrow)).trans ?_
  rw [scale_at, shift_at]
  rfl

/-- The kernel's result array. -/
theorem final : (dats m 0 c).arrAt 14 (cfgs 0).N = MergeReference.result (X m c) (O0 m c) (O1 m c) (O2 m c) (W m c) (bg m c) (V0 m c) (V1 m c) (V2 m c)
    (P m c) (G m c) (B m c) := by
  refine (dats m 0 c).arrAt_eq_of_covers 14 _ (by decide +kernel) fun t hf y => ?_
  have ht : t.val < 256 := lt_of_lt_of_eq t.isLt N_0
  blk_simp
  rw [after0_14]
  obtain ⟨r, d, rfl⟩ : ∃ (r : Fin 512) (d : Fin 2048), y = ix2 r d := ⟨y 0, y 1, by funext i; match i with | ⟨0, _⟩ => rfl | ⟨1, _⟩ => rfl⟩
  refine (last m c t ((flush0_14 t).mp hf) r d ⟨t.val / 8 * 512 + r, by omega⟩ rfl).trans ?_
  blk_ext [idx_rows t]

end Cert.MergeValue
end
-- ==== Proof.MergeClaim.lean ====
module

public import proofs.«01_k».proof.Defs
public import proofs.«01_k».proof.Proof.Gen.Merge.Frame
public import proofs.«01_k».proof.Proof.MergeValue
public import Idealize.ShloMosaic.Adequacy
public import Idealize.ShloMosaic.Lib.Claim
public import Idealize.ShloMosaic.PureOps.Ideal.Laws

/-! The claims about the merge call. -/

@[expose] public section

set_option maxRecDepth 16384
noncomputable section
open Idealize.ShloMosaic Idealize.ShloMosaic.TcCoe Idealize.SL.Sem

namespace Cert.MergeClaim

instance : Cert.Merge.Facts := Cert.Merge.Gen.facts
instance : Cert.MergeIdeal.Facts := Cert.MergeIdeal.Gen.facts
instance : Cert.MergeRefIdeal.Facts := Cert.MergeRefIdeal.Gen.facts

/-- The kernel, run on bits, terminates with its arguments unchanged. -/
theorem frame : Cert.quiescent_Merge := fun m ρ _ => Cert.Merge.Gen.frame m ρ

/-- The kernel, run on extended reals, terminates with its arguments unchanged. -/
theorem frame_ideal : Cert.quiescent_MergeIdeal := fun m ρ _ => Cert.MergeIdeal.Gen.frame m ρ

/-- The reference terminates with its arguments unchanged. -/
theorem frame_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

set_option maxHeartbeats 4000000 in
/-- The kernel's result on extended reals is the reference's. -/
theorem algebraic : Cert.algebraic_MergeIdeal_MergeRefIdeal := by
  pair_intro
  · run_from Cert.MergeIdeal.Gen.run_main m g
  · hlo_run
    exact (Cert.MergeValue.final m c).symm

end Cert.MergeClaim
end
-- ==== Proof.lean ====
/- The proof of the claims about the calls of the layer. -/
module

public import proofs.«01_k».proof.Defs
public import proofs.«01_k».proof.Proof.GqaClaim
public import proofs.«01_k».proof.Proof.InprojClaim
public import proofs.«01_k».proof.Proof.MemAttnClaim
public import proofs.«01_k».proof.Proof.MemKvClaim
public import proofs.«01_k».proof.Proof.FfnClaim
public import proofs.«01_k».proof.Proof.MergeClaim
public import proofs.«01_k».proof.Proof.Gen.Merge.Frame
public import proofs.«01_k».proof.Proof.Gen.MemKv.Frame
public import proofs.«01_k».proof.Proof.Gen.MemKvIdeal.Frame
public import proofs.«01_k».proof.Proof.Gen.MemAttn.Frame
public import proofs.«01_k».proof.Proof.Gen.MemAttnIdeal.Frame
public import proofs.«01_k».proof.Proof.Gen.Inproj.Frame
public import proofs.«01_k».proof.Proof.Gen.InprojIdeal.Frame
public import proofs.«01_k».proof.Proof.Gen.InprojRefIdeal.Run
public import proofs.«01_k».proof.Proof.Gen.Pre_finite_mem
public import proofs.«01_k».proof.Proof.Gen.GqaRefIdeal.Run
public import proofs.«01_k».proof.Proof.Gen.MemAttnRefIdeal.Run
public import proofs.«01_k».proof.Proof.Gen.MemKvRefIdeal.Run
public import proofs.«01_k».proof.Proof.Gen.FfnRefIdeal.Run
public import proofs.«01_k».proof.Proof.Gen.MergeRefIdeal.Run
public import proofs.«01_k».proof.Proof.Gen.FfnIdeal.Value
public import proofs.«01_k».proof.Proof.Gen.MergeIdeal.Value
public import proofs.«01_k».proof.Proof.Gen.InprojIdeal.Value

@[expose] public section

noncomputable section

namespace Cert.Proof

/-- Every claim of the certificate. -/
theorem claim : Cert.Claim := ⟨Cert.Gqa.Gen.facts, Cert.GqaIdeal.Gen.facts, Cert.GqaRefIdeal.Gen.facts,
  Cert.Inproj.Gen.facts, Cert.InprojIdeal.Gen.facts, Cert.InprojRefIdeal.Gen.facts,
  Cert.MemAttn.Gen.facts, Cert.MemAttnIdeal.Gen.facts, Cert.MemAttnRefIdeal.Gen.facts,
  Cert.MemKv.Gen.facts, Cert.MemKvIdeal.Gen.facts, Cert.MemKvRefIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Pre_finite_gqa.Gen.facts, Cert.Pre_finite_mem.Gen.facts,
  GqaClaim.frame, GqaClaim.frame_ideal, GqaClaim.frame_ideal_pre, GqaClaim.frame_ref, GqaClaim.frame_ref_pre,
  InprojClaim.frame, InprojClaim.frame_ideal, InprojClaim.frame_ref,
  MemAttnClaim.frame, MemAttnClaim.frame_ideal, MemAttnClaim.frame_ideal_pre, MemAttnClaim.frame_ref, MemAttnClaim.frame_ref_pre,
  MemKvClaim.frame, MemKvClaim.frame_ideal, MemKvClaim.frame_ref,
  FfnClaim.frame, FfnClaim.frame_ideal, FfnClaim.frame_ref,
  MergeClaim.frame, MergeClaim.frame_ideal, MergeClaim.frame_ref,
  trivial, GqaClaim.algebraic,
  trivial, InprojClaim.algebraic,
  trivial, MemAttnClaim.algebraic,
  trivial, MemKvClaim.algebraic,
  trivial, FfnClaim.algebraic,
  trivial, MergeClaim.algebraic⟩

end Cert.Proof

end
